-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x32 : Shape := ⟨2, ![512, 32]⟩
abbrev S1024x2 : Shape := ⟨2, ![1024, 2]⟩
abbrev S4x512x1024 : Shape := ⟨3, ![4, 512, 1024]⟩
abbrev S1024x32 : Shape := ⟨2, ![1024, 32]⟩
abbrev S_ : Shape := ⟨0, ![]⟩

class Facts : Prop where
  bitsLt_bf16_f32 : FTy.bits .bf16 < FTy.bits .f32
  bcast_S_S1024x32 : S_.BroadcastsInDim S1024x32 (![] : Fin 0 → Fin S1024x32.rank)
  reducesTo_S1024x32_S_d0_1 : S1024x32.ReducesTo [0, 1] S_
  h_S_ : 0 < S_.numel
  bcast_S_S1024x2 : S_.BroadcastsInDim S1024x2 (![] : Fin 0 → Fin S1024x2.rank)
  reducesTo_S1024x2_S_d0_1 : S1024x2.ReducesTo [0, 1] S_
  dot_S1024x512_S512x32_S1024x32_1_0_0_1_n_n_wf : DotDims.WF S1024x512 S512x32 S1024x32 [1] [0] [0] [1] [] []

variable [Facts]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def fn {F : FTy → Type} [FloatOps F] (main_arg0 : FVec F S1024x512 .bf16) (main_arg1 : FVec F S512x32 .bf16) (main_arg2 : IVec S1024x2 32) (main_arg3 : FVec F S4x512x1024 .bf16) : IVec S_ 1 :=
  let main_v0 : FVec F S1024x512 .f32 := (extf .f32 · bitsLt_bf16_f32) main_arg0
  let main_v1 : FVec F S512x32 .f32 := (extf .f32 · bitsLt_bf16_f32) main_arg1
  let main_v2 : FVec F S1024x32 .f32 := (fun l r => Host.dotGeneral dot_S1024x512_S512x32_S1024x32_1_0_0_1_n_n none l r) main_v0 main_v1
  let main_v3 : FVec F S1024x32 .f32 := Host.absf main_v2
  let main_cst : FVec F S_ .f32 := constant S_ .f32 0x7F800000#32
  let main_v4 : FVec F S1024x32 .f32 := broadcastInDim S1024x32 ![] bcast_S_S1024x32 main_cst
  let main_v5 : IVec S1024x32 1 := cmpf .olt main_v3 main_v4
  let main_c : IVec S_ 1 := constantI S_ 1 1#1
  let main_v6 : IVec S_ 1 := (fun x v => Host.reduce IntOp.andi x v reducesTo_S1024x32_S_d0_1 h_S_) main_v5 main_c
  let main_c_0 : IVec S_ 32 := constantI S_ 32 0#32
  let main_v7 : IVec S1024x2 32 := broadcastInDim S1024x2 ![] bcast_S_S1024x2 main_c_0
  let main_v8 : IVec S1024x2 1 := cmpi .sge main_arg2 main_v7
  let main_c_1 : IVec S_ 32 := constantI S_ 32 32#32
  let main_v9 : IVec S1024x2 32 := broadcastInDim S1024x2 ![] bcast_S_S1024x2 main_c_1
  let main_v10 : IVec S1024x2 1 := cmpi .slt main_arg2 main_v9
  let main_v11 : IVec S1024x2 1 := andi main_v8 main_v10
  let main_c_2 : IVec S_ 1 := constantI S_ 1 1#1
  let main_v12 : IVec S_ 1 := (fun x v => Host.reduce IntOp.andi x v reducesTo_S1024x2_S_d0_1 h_S_) main_v11 main_c_2
  let main_v13 : IVec S_ 1 := andi main_v6 main_v12
  main_v13
-- ==== Pre_routed_ReferenceIdeal.lean ====
abbrev S1024x512 : Shape := ⟨2, ![1024, 512]⟩
abbrev S512x32 : Shape := ⟨2, ![512, 32]⟩
abbrev S1024x2 : Shape := ⟨2, ![1024, 2]⟩
abbrev S32x512x1024 : Shape := ⟨3, ![32, 512, 1024]⟩
abbrev S1024x32 : Shape := ⟨2, ![1024, 32]⟩
abbrev S_ : Shape := ⟨0, ![]⟩

class Facts : Prop where
  bitsLt_bf16_f32 : FTy.bits .bf16 < FTy.bits .f32
  bcast_S_S1024x32 : S_.BroadcastsInDim S1024x32 (![] : Fin 0 → Fin S1024x32.rank)
  reducesTo_S1024x32_S_d0_1 : S1024x32.ReducesTo [0, 1] S_
  h_S_ : 0 < S_.numel
  bcast_S_S1024x2 : S_.BroadcastsInDim S1024x2 (![] : Fin 0 → Fin S1024x2.rank)
  reducesTo_S1024x2_S_d0_1 : S1024x2.ReducesTo [0, 1] S_
  dot_S1024x512_S512x32_S1024x32_1_0_0_1_n_n_wf : DotDims.WF S1024x512 S512x32 S1024x32 [1] [0] [0] [1] [] []

variable [Facts]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def fn {F : FTy → Type} [FloatOps F] (main_arg0 : FVec F S1024x512 .bf16) (main_arg1 : FVec F S512x32 .bf16) (main_arg2 : IVec S1024x2 32) (main_arg3 : FVec F S32x512x1024 .bf16) : IVec S_ 1 :=
  let main_v0 : FVec F S1024x512 .f32 := (extf .f32 · bitsLt_bf16_f32) main_arg0
  let main_v1 : FVec F S512x32 .f32 := (extf .f32 · bitsLt_bf16_f32) main_arg1
  let main_v2 : FVec F S1024x32 .f32 := (fun l r => Host.dotGeneral dot_S1024x512_S512x32_S1024x32_1_0_0_1_n_n none l r) main_v0 main_v1
  let main_v3 : FVec F S1024x32 .f32 := Host.absf main_v2
  let main_cst : FVec F S_ .f32 := constant S_ .f32 0x7F800000#32
  let main_v4 : FVec F S1024x32 .f32 := broadcastInDim S1024x32 ![] bcast_S_S1024x32 main_cst
  let main_v5 : IVec S1024x32 1 := cmpf .olt main_v3 main_v4
  let main_c : IVec S_ 1 := constantI S_ 1 1#1
  let main_v6 : IVec S_ 1 := (fun x v => Host.reduce IntOp.andi x v reducesTo_S1024x32_S_d0_1 h_S_) main_v5 main_c
  let main_c_0 : IVec S_ 32 := constantI S_ 32 0#32
  let main_v7 : IVec S1024x2 32 := broadcastInDim S1024x2 ![] bcast_S_S1024x2 main_c_0
  let main_v8 : IVec S1024x2 1 := cmpi .sge main_arg2 main_v7
  let main_c_1 : IVec S_ 32 := constantI S_ 32 32#32
  let main_v9 : IVec S1024x2 32 := broadcastInDim S1024x2 ![] bcast_S_S1024x2 main_c_1
  let main_v10 : IVec S1024x2 1 := cmpi .slt main_arg2 main_v9
  let main_v11 : IVec S1024x2 1 := andi main_v8 main_v10
  let main_c_2 : IVec S_ 1 := constantI S_ 1 1#1
  let main_v12 : IVec S_ 1 := (fun x v => Host.reduce IntOp.andi x v reducesTo_S1024x2_S_d0_1 h_S_) main_v11 main_c_2
  let main_v13 : IVec S_ 1 := andi main_v6 main_v12
  main_v13
-- ==== Kernel.lean ====
abbrev S1024x512 : Shape := ⟨2, ![1024, 512]⟩
abbrev S512x32 : Shape := ⟨2, ![512, 32]⟩
abbrev S1024x2 : Shape := ⟨2, ![1024, 2]⟩
abbrev S4x512x1024 : Shape := ⟨3, ![4, 512, 1024]⟩
abbrev S128x1024 : Shape := ⟨2, ![128, 1024]⟩
abbrev S1024x2048 : Shape := ⟨2, ![1024, 2048]⟩
abbrev S2048x1024 : Shape := ⟨2, ![2048, 1024]⟩
abbrev S7x128x1024 : Shape := ⟨3, ![7, 128, 1024]⟩
abbrev S7 : Shape := ⟨1, ![7]⟩
abbrev S_ : Shape := ⟨0, ![]⟩
abbrev S1024x32 : Shape := ⟨2, ![1024, 32]⟩
abbrev S1024 : Shape := ⟨1, ![1024]⟩
abbrev S1024x1 : Shape := ⟨2, ![1024, 1]⟩
abbrev S128x2048 : Shape := ⟨2, ![128, 2048]⟩
abbrev S1x128x1024 : Shape := ⟨3, ![1, 128, 1024]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x2, .i32⟩
  | .hbm, ⟨3, _⟩ => ⟨S4x512x1024, .bf16⟩
  | .hbm, ⟨4, _⟩ => ⟨S128x1024, .f32⟩
  | .local _ .vmem, ⟨0, _⟩ => ⟨S1024x512, .bf16⟩
  | .local _ .vmem, ⟨1, _⟩ => ⟨S512x32, .bf16⟩
  | .local _ .vmem, ⟨2, _⟩ => ⟨S1024x2, .i32⟩
  | .local _ .vmem, ⟨3, _⟩ => ⟨S4x512x1024, .bf16⟩
  | .local _ .vmem, ⟨4, _⟩ => ⟨S128x1024, .f32⟩
  | .local _ .vmem, ⟨5, _⟩ => ⟨S1024x2048, .bf16⟩
  | .local _ .vmem, ⟨6, _⟩ => ⟨S2048x1024, .bf16⟩
  | .local _ .vmem, ⟨7, _⟩ => ⟨S7x128x1024, .bf16⟩
  | .local _ .vmem, ⟨8, _⟩ => ⟨S7x128x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_66 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v142 : BitVec 32 := Scalar.addi v2 c1_i32_66
  let c8_i32_67 : BitVec 32 := 8#32
  let v143 : BitVec 32 := Scalar.remsi v142 c8_i32_67
  let c128_i32 : BitVec 32 := 128#32
  let v144 : BitVec 32 := Scalar.muli v143 c128_i32
  let v145 : Index := Scalar.indexCast v144
  let c0_68 : Index := 0#32
  ![v145.toNat, 0]
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_66 : BitVec 32 := 1#32
  let v142 : BitVec 32 := Scalar.addi v2 c1_i32_66
  let c8_i32_67 : BitVec 32 := 8#32
  let v143 : BitVec 32 := Scalar.remsi v142 c8_i32_67
  let c1_i32_79 : BitVec 32 := 1#32
  let v153 : BitVec 32 := Scalar.muli v143 c1_i32_79
  let v154 : BitVec 32 := Scalar.addi c0_i32_80 v153
  v154.toNat
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_85 : BitVec 32 := 2#32
  let v163 : BitVec 32 := Scalar.addi v2 c2_i32_85
  let c8_i32_86 : BitVec 32 := 8#32
  let v164 : BitVec 32 := Scalar.remsi v163 c8_i32_86
  let c1_i32_99 : BitVec 32 := 1#32
  let v174 : BitVec 32 := Scalar.muli v164 c1_i32_99
  let v175 : BitVec 32 := Scalar.addi c0_i32_100 v174
  v175.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_105 : BitVec 32 := 3#32
  let v184 : BitVec 32 := Scalar.addi v2 c3_i32_105
  let c8_i32_106 : BitVec 32 := 8#32
  let v185 : BitVec 32 := Scalar.remsi v184 c8_i32_106
  let c1_i32_118 : BitVec 32 := 1#32
  let v195 : BitVec 32 := Scalar.muli v185 c1_i32_118
  let v196 : BitVec 32 := Scalar.addi c0_i32_119 v195
  v196.toNat
def k0_dev11 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_124 : BitVec 32 := 4#32
  let v205 : BitVec 32 := Scalar.addi v2 c4_i32_124
  let c8_i32_125 : BitVec 32 := 8#32
  let v206 : BitVec 32 := Scalar.remsi v205 c8_i32_125
  let c1_i32_137 : BitVec 32 := 1#32
  let v216 : BitVec 32 := Scalar.muli v206 c1_i32_137
  let v217 : BitVec 32 := Scalar.addi c0_i32_138 v216
  v217.toNat
def k0_dev12 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_143 : BitVec 32 := 5#32
  let v226 : BitVec 32 := Scalar.addi v2 c5_i32_143
  let c8_i32_144 : BitVec 32 := 8#32
  let v227 : BitVec 32 := Scalar.remsi v226 c8_i32_144
  let c1_i32_156 : BitVec 32 := 1#32
  let v237 : BitVec 32 := Scalar.muli v227 c1_i32_156
  let v238 : BitVec 32 := Scalar.addi c0_i32_157 v237
  v238.toNat
def k0_dev13 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_162 : BitVec 32 := 6#32
  let v247 : BitVec 32 := Scalar.addi v2 c6_i32_162
  let c8_i32_163 : BitVec 32 := 8#32
  let v248 : BitVec 32 := Scalar.remsi v247 c8_i32_163
  let c1_i32_175 : BitVec 32 := 1#32
  let v258 : BitVec 32 := Scalar.muli v248 c1_i32_175
  let v259 : BitVec 32 := Scalar.addi c0_i32_176 v258
  v259.toNat
def k0_dev14 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_181 : BitVec 32 := 7#32
  let v268 : BitVec 32 := Scalar.addi v2 c7_i32_181
  let c8_i32_182 : BitVec 32 := 8#32
  let v269 : BitVec 32 := Scalar.remsi v268 c8_i32_182
  let c1_i32_194 : BitVec 32 := 1#32
  let v279 : BitVec 32 := Scalar.muli v269 c1_i32_194
  let v280 : BitVec 32 := Scalar.addi c0_i32_195 v279
  v280.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_200 : BitVec 32 := 128#32
  let v289 : BitVec 32 := Scalar.muli v2 c128_i32_200
  let v290 : Index := Scalar.indexCast v289
  let c0_201 : Index := 0#32
  ![v290.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x2 : Shape := ⟨2, ![1024, 2]⟩
abbrev S32x512x1024 : Shape := ⟨3, ![32, 512, 1024]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S1024x512x1024 : Shape := ⟨3, ![1024, 512, 1024]⟩
abbrev S1024x1024 : Shape := ⟨2, ![1024, 1024]⟩

abbrev nBuf : Space → Nat
  | .hbm => 90
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x2, .i32⟩
  | .hbm, ⟨3, _⟩ => ⟨S32x512x1024, .bf16⟩
  | .hbm, ⟨4, _⟩ => ⟨S1024x512, .f32⟩
  | .hbm, ⟨5, _⟩ => ⟨S512x32, .f32⟩
  | .hbm, ⟨6, _⟩ => ⟨S1024x32, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x32, .f32⟩
  | .hbm, ⟨11, _⟩ => ⟨S1024x32, .f32⟩
  | .hbm, ⟨12, _⟩ => ⟨S1024x32, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x32, .f32⟩
  | .hbm, ⟨17, _⟩ => ⟨S1024x32, .f32⟩
  | .hbm, ⟨18, _⟩ => ⟨S1024, .i32⟩
  | .hbm, ⟨19, _⟩ => ⟨S1024x1, .i32⟩
  | .hbm, ⟨20, _⟩ => ⟨S1024, .i32⟩
  | .hbm, ⟨21, _⟩ => ⟨S1024x1, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S1024x1, .i32⟩
  | .hbm, ⟨38, _⟩ => ⟨S1024x1, .i32⟩
  | .hbm, ⟨39, _⟩ => ⟨S1024x2, .i32⟩
  | .hbm, ⟨40, _⟩ => ⟨S1024, .f32⟩
  | .hbm, ⟨41, _⟩ => ⟨S1024x1, .f32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .i32⟩
  | .hbm, ⟨56, _⟩ => ⟨S1024x1, .i32⟩
  | .hbm, ⟨57, _⟩ => ⟨S1024x1, .i32⟩
  | .hbm, ⟨58, _⟩ => ⟨S1024x2, .i32⟩
  | .hbm, ⟨59, _⟩ => ⟨S1024, .f32⟩
  | .hbm, ⟨60, _⟩ => ⟨S1024x1, .f32⟩
  | .hbm, ⟨61, _⟩ => ⟨S1024x1, .f32⟩
  | .hbm, ⟨62, _⟩ => ⟨S32x512x1024, .f32⟩
  | .hbm, ⟨63, _⟩ => ⟨S1024x1, .f32⟩
  | .hbm, ⟨64, _⟩ => ⟨S_, .i32⟩
  | .hbm, ⟨65, _⟩ => ⟨S1024, .i32⟩
  | .hbm, ⟨66, _⟩ => ⟨S1024, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S1024x1, .i32⟩
  | .hbm, ⟨72, _⟩ => ⟨S1024x512x1024, .f32⟩
  | .hbm, ⟨73, _⟩ => ⟨S1024x1024, .f32⟩
  | .hbm, ⟨74, _⟩ => ⟨S1024x1024, .f32⟩
  | .hbm, ⟨75, _⟩ => ⟨S1024x1024, .f32⟩
  | .hbm, ⟨76, _⟩ => ⟨S1024x1, .f32⟩
  | .hbm, ⟨77, _⟩ => ⟨S_, .i32⟩
  | .hbm, ⟨78, _⟩ => ⟨S1024, .i32⟩
  | .hbm, ⟨79, _⟩ => ⟨S1024, .i1⟩
  | .hbm, ⟨80, _⟩ => ⟨S_, .i32⟩
  | .hbm, ⟨81, _⟩ => ⟨S1024, .i32⟩
  | .hbm, ⟨82, _⟩ => ⟨S1024, .i32⟩
  | .hbm, ⟨83, _⟩ => ⟨S1024, .i32⟩
  | .hbm, ⟨84, _⟩ => ⟨S1024x1, .i32⟩
  | .hbm, ⟨85, _⟩ => ⟨S1024x512x1024, .f32⟩
  | .hbm, ⟨86, _⟩ => ⟨S1024x1024, .f32⟩
  | .hbm, ⟨87, _⟩ => ⟨S1024x1024, .f32⟩
  | .hbm, ⟨88, _⟩ => ⟨S1024x1024, .f32⟩
  | .hbm, ⟨89, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_10 : Ref sig .tc := ⟨.hbm, 77, rfl⟩
abbrev main_v61 : Ref sig .tc := ⟨.hbm, 78, rfl⟩
abbrev main_v62 : Ref sig .tc := ⟨.hbm, 79, rfl⟩
abbrev main_c_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Protocol.lean ====
/-
# 01_k, `Protocol`: who hands what to whom

Every device signals the barrier semaphore of the seven others and waits for seven units on its own. It then
multiplies, for each of the seven others, that device's 128 rows by its own experts, and copies the product into a
slot of the other device's receive buffer. Slot `k` of device `c` is sent to device `up c k`, which keeps it in its
own slot `k`. The barrier is what makes the slots safe to write: a device's signal hands over its slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The ghost state of the protocol: at each cell rounds of up to seven duties. -/
abbrev UB : Type := URounds (GSem nD τ sig) (Fin 7)
/-- Beside the ghost state of the staging copies. -/
abbrev UU : Type := UR sig nD τ × UB

local notation "𝕄" => MT nD τ sig Unit (Elt F) ℕ UU ℕ

/-- Where the staging copies' ghost state sits, -/
abbrev EP : Emb (UR sig nD τ) (MT nD τ sig Unit (Elt F) ℕ UU ℕ) := embL
/-- and where the protocol's does. -/
abbrev ER : Emb UB (MT nD τ sig Unit (Elt F) ℕ UU ℕ) := embR

variable (m : (ℓ : Loc nD τ sig) → Buf (Elt F) ℓ) (ρ : Dev nD → PrngReg)

/-- The memory the program starts from: any contents, every counter zero. -/
def s₀ : MemSt nD τ sig (Elt F) := ⟨m, fun _ => 0, ρ⟩

/-! ## The devices -/

set_option backward.proofsInPublic true in
/-- The device `k + 1` places after `c`. -/
def up (c : Dev nD) (k : Fin 7) : Dev nD := ⟨(c.val + k.val + 1) % 8, Nat.mod_lt _ (by decide)⟩

/-- The device whose slot `k` goes to `c`: the one `k + 1` places before it. -/
abbrev dn (c : Dev nD) (k : Fin 7) : Dev nD := up c (Fin.rev k)

/-- `k + 1` places before and then `k + 1` places after is back. -/
theorem up_dn (c : Dev nD) (k : Fin 7) : up (dn c k) k = c := by revert c k; decide
/-- `k + 1` places after and then `k + 1` places before is back. -/
theorem dn_up (c : Dev nD) (k : Fin 7) : dn (up c k) k = c := by revert c k; decide

/-- The rotation by `k + 1` places. -/
def rot (k : Fin 7) : Dev nD ≃ Dev nD := ⟨fun c => up c k, fun c => dn c k, fun c => dn_up c k, fun c => up_dn c k⟩

/-! ## The semaphores -/

/-- The runtime's barrier semaphore. -/
abbrev barS : Sem sig := (SemArray.scalar (sig.barrier 0 rfl) : Sems sig S_).sem
set_option backward.proofsInPublic true in
/-- The semaphore slot `k` is sent on. -/
def sendQ (k : Fin 7) : DmaSem sig := ⟨5 + k.val, by have := k.isLt; show 5 + k.val < 19; omega⟩
set_option backward.proofsInPublic true in
/-- The semaphore slot `k` is received on. -/
def recvQ (k : Fin 7) : DmaSem sig := ⟨12 + k.val, by have := k.isLt; show 12 + k.val < 19; omega⟩

/-- Device `c`'s barrier. -/
abbrev barCell (c : Dev nD) : GSem nD τ sig := ((c : Thread nD τ), .reg barS)
/-- Device `c`'s semaphore for sending slot `k`. -/
abbrev sendCell (c : Dev nD) (k : Fin 7) : GSem nD τ sig := ((c : Thread nD τ), .dma (sendQ k))
/-- Device `c`'s semaphore for receiving slot `k`. -/
abbrev recvCell (c : Dev nD) (k : Fin 7) : GSem nD τ sig := ((c : Thread nD τ), .dma (recvQ k))

/-- The kernel's own semaphores: seven to send on, seven to receive on. -/
def osem : Fin 7 ⊕ Fin 7 → SemLoc sig
  | .inl k => .dma (sendQ k)
  | .inr k => .dma (recvQ k)

/-- Those and the barrier. -/
abbrev CI : Type := Unit ⊕ (Fin 7 ⊕ Fin 7)
/-- Which semaphore a name in `CI` stands for. -/
def csem : CI → SemLoc sig
  | .inl _ => .reg barS
  | .inr k => osem k
/-- The same on a given device. -/
abbrev kcell (ck : Dev nD × CI) : GSem nD τ sig := ((ck.1 : Thread nD τ), csem ck.2)

/-- What a semaphore is for. -/
inductive Use where
  | bar
  | send (k : Fin 7)
  | recv (k : Fin 7)
  | none
deriving DecidableEq

set_option backward.proofsInPublic true in
/-- The use of each semaphore of the program. -/
def useOf : SemLoc sig → Use
  | .reg s => if s = barS then .bar else .none
  | .dma q =>
      if h : 5 ≤ q.val ∧ q.val < 12 then .send ⟨q.val - 5, by omega⟩
      else if h : 12 ≤ q.val ∧ q.val < 19 then .recv ⟨q.val - 12, by omega⟩
      else .none

/-- The barrier is used as one, -/
theorem use_bar : useOf (.reg barS) = .bar := by decide
/-- the send semaphores to send, -/
theorem use_send (k : Fin 7) : useOf (.dma (sendQ k)) = .send k := by revert k; decide
/-- and the receive semaphores to receive. -/
theorem use_recv (k : Fin 7) : useOf (.dma (recvQ k)) = .recv k := by revert k; decide

/-! ## The slots -/

/-- The slots' places in a buffer of seven blocks are inside it. -/
theorem slot_inb (k : Fin 7) : ∀ a, (![k.val, 0, 0] : Fin 3 → Nat) a + S1x128x1024.size a ≤ S7x128x1024.size a := by
  revert k; decide

/-- The place of slot `k`. -/
abbrev slotR (k : Fin 7) : Rect S7x128x1024 := Rect.unit (s := S7x128x1024) ![k.val, 0, 0] S1x128x1024.size (slot_inb k)

/-- The buffer of the blocks to send. -/
abbrev sendB : Memref sig .tc .vmem S7x128x1024 .bf16 := Memref.whole cc0_scratch2
/-- The buffer of the blocks received. -/
abbrev recvB : Memref sig .tc .vmem S7x128x1024 .bf16 := Memref.whole cc0_scratch3
/-- The buffer of the gated tokens. -/
abbrev xgB : Memref sig .tc .vmem S1024x2048 .bf16 := Memref.whole cc0_scratch0
/-- The buffer of the stacked experts. -/
abbrev ewB : Memref sig .tc .vmem S2048x1024 .bf16 := Memref.whole cc0_scratch1

/-- Slot `k` of a buffer as the copies name it: 128 rows of 1024. -/
abbrev slotOf (b : Memref sig .tc .vmem S7x128x1024 .bf16) (k : Fin 7) : Memref sig .tc .vmem S128x1024 .bf16 :=
  (b.slice (slotR k) (fun _ => rfl)).squeeze S128x1024 squeezes_S1x128x1024_S128x1024

/-- The copies' view of a slot covers the slot's entries. -/
theorem slotOf_set (b : Memref sig .tc .vmem S7x128x1024 .bf16) (k : Fin 7) : (slotOf b k).view.set = (b.access (slotR k)).set :=
  View.set_reshape _ _

/-- Two slots are apart. -/
theorem slots_disjoint (k k' : Fin 7) (h : k ≠ k') : Disjoint (slotR k).set (slotR k').set := by
  rw [Finset.disjoint_left]
  intro i hi hi'
  rw [Rect.mem_set_unit] at hi hi'
  have h1 := hi 0; have h2 := hi' 0
  simp at h1 h2
  exact h (Fin.ext (by omega))

/-- The seven slots are the buffer. -/
theorem slots_cover : (Finset.univ : Finset (Fin 7)).biUnion (fun k => (slotR k).set) = Finset.univ := by
  ext i
  simp only [Finset.mem_biUnion, Finset.mem_univ, true_and, iff_true]
  refine ⟨⟨(i 0).val, (i 0).isLt⟩, ?_⟩
  rw [Rect.mem_set_unit]
  intro a
  have := (i a).isLt
  fin_cases a <;> simp <;> omega

/-- The credit of one slot's copy. -/
abbrev N : ℕ := (slotOf recvB 0).view.dmaCredit
/-- A copy is worth something. -/
theorem N_pos : 0 < N := View.dmaCredit_pos _ (by decide)

section Slots

/-- What is read through a reshaped slot and written through a reshaped slot is read back from the second slot. -/
theorem slot_roundtrip {v v' : View sig .tc .vmem S1x128x1024 .bf16} (h : S128x1024.numel = S1x128x1024.numel)
    (f : v.ty.Contents (Elt F)) (fd : v'.ty.Contents (Elt F)) :
    v'.read (Elt F) ((v'.reshape S128x1024 h).write (Elt F) fd ((v.reshape S128x1024 h).read (Elt F) f) Finset.univ) = v.read (Elt F) f := by
  funext x
  obtain ⟨y, rfl⟩ := (Shape.reshapeEquiv h).surjective x
  exact congrFun (View.read_write_univ (v := v'.reshape S128x1024 h) fd ((v.reshape S128x1024 h).read (Elt F) f)) y
end Slots

end Cert.Moe

end
-- ==== Proof.Contents.lean ====
/-
# 01_k, `Contents`: what the buffers hold

What a device stages of its arguments, what it builds from them in its two scratch operands, the block it sends to
each other device, and the running sum it leaves in its result.
-/
module

public import proofs.«01_k».proof.Proof.Protocol
public import Idealize.ShloMosaic.Lib.WritesUnit
public import Idealize.ShloMosaic.Lib.Pointwise.Index

@[expose] public section

noncomputable section

namespace Cert.Moe

open Cert.KernelIdeal Cert.KernelIdeal.Gen
open Idealize.ShloMosaic Idealize.ShloMosaic.TcCoe

variable {F : FTy → Type} [FloatOps F]
variable (m : (ℓ : Loc nD τ sig) → Buf (Elt F) ℓ)

/-! ## The arguments -/

/-- Device `c`'s tokens as staged. -/
def xsC (c : Dev nD) : Vec F S1024x512 .bf16 := (win0_0.blk (0 : Fin 1)).view.read (Elt F) (m ((c : Thread nD τ).loc main_arg0))
/-- Device `c`'s router as staged. -/
def rwC (c : Dev nD) : Vec F S512x32 .bf16 := (win0_1.blk (0 : Fin 1)).view.read (Elt F) (m ((c : Thread nD τ).loc main_arg1))
/-- Device `c`'s names as staged. -/
def idC (c : Dev nD) : Vec F S1024x2 .i32 := (win0_2.blk (0 : Fin 1)).view.read (Elt F) (m ((c : Thread nD τ).loc main_arg2))
/-- Device `c`'s four experts as staged. -/
def ewC (c : Dev nD) : Vec F S4x512x1024 .bf16 := (win0_3.blk (0 : Fin 1)).view.read (Elt F) (m ((c : Thread nD τ).loc main_arg3))

/-! ## The scratch operands -/

/-- The names' staging buffer. -/
abbrev idB : Memref sig .tc .vmem S1024x2 .i32 := Memref.whole cc0_stg2_0

/-- The column of the first names. -/
abbrev idR0 : Rect S1024x2 := Rect.unit (s := S1024x2) ![0, 0] S1024x1.size inb_S1024x2_S1024x1_0_0
/-- The column of the second names. -/
abbrev idR1 : Rect S1024x2 := Rect.unit (s := S1024x2) ![0, 1] S1024x1.size inb_S1024x2_S1024x1_0_1
/-- The first name of each token. -/
def idC0 (c : Dev nD) : Vec F S1024x1 .i32 := (idB).view.readAt (Elt F) idR0.toLoadRect (idC m c)
/-- The second name of each token. -/
def idC1 (c : Dev nD) : Vec F S1024x1 .i32 := (idB).view.readAt (Elt F) idR1.toLoadRect (idC m c)

/-- The device's number as the program computes it. -/
abbrev myW (c : Dev nD) : BitVec 32 := Scalar.remsi (Scalar.divsi (Dev.word c) 1#32) 8#32

/-- Columns 0 to 511 of the token buffer, for local expert 0. -/
abbrev colR0 : Rect S1024x2048 := Rect.unit (s := S1024x2048) ![0, 0] S1024x512.size inb_S1024x2048_S1024x512_0_0
/-- Columns 512 to 1023, for local expert 1. -/
abbrev colR1 : Rect S1024x2048 := Rect.unit (s := S1024x2048) ![0, 512] S1024x512.size inb_S1024x2048_S1024x512_0_512
/-- Columns 1024 to 1535, for local expert 2. -/
abbrev colR2 : Rect S1024x2048 := Rect.unit (s := S1024x2048) ![0, 1024] S1024x512.size inb_S1024x2048_S1024x512_0_1024
/-- Columns 1536 to 2047, for local expert 3. -/
abbrev colR3 : Rect S1024x2048 := Rect.unit (s := S1024x2048) ![0, 1536] S1024x512.size inb_S1024x2048_S1024x512_0_1536

/-- The token rows scaled by their gate for the device's local expert 0. -/
def col0 (c : Dev nD) : Vec F S1024x512 .bf16 :=
  k0_pay10 (myW c) (k0_pay1 (xsC m c)) (k0_pay3 (F := F) (idC0 m c)) (k0_pay4 (F := F) (idC1 m c)) (k0_pay5 (xsC m c) (rwC m c) (idC0 m c)) (k0_pay6 (xsC m c) (rwC m c) (idC1 m c))
/-- The same for local expert 1. -/
def col1 (c : Dev nD) : Vec F S1024x512 .bf16 :=
  k0_pay12 (k0_pay11 (myW c) (k0_pay1 (xsC m c)) (k0_pay3 (F := F) (idC0 m c)) (k0_pay4 (F := F) (idC1 m c)) (k0_pay5 (xsC m c) (rwC m c) (idC0 m c)) (k0_pay6 (xsC m c) (rwC m c) (idC1 m c)))
/-- The same for local expert 2. -/
def col2 (c : Dev nD) : Vec F S1024x512 .bf16 :=
  k0_pay13 (myW c) (k0_pay1 (xsC m c)) (k0_pay3 (F := F) (idC0 m c)) (k0_pay4 (F := F) (idC1 m c)) (k0_pay5 (xsC m c) (rwC m c) (idC0 m c)) (k0_pay7 (k0_pay6 (xsC m c) (rwC m c) (idC1 m c)))
    (k0_pay8 (k0_pay5 (xsC m c) (rwC m c) (idC0 m c)) (k0_pay6 (xsC m c) (rwC m c) (idC1 m c)))
/-- The same for local expert 3. -/
def col3 (c : Dev nD) : Vec F S1024x512 .bf16 :=
  k0_pay14 (myW c) (k0_pay1 (xsC m c)) (k0_pay3 (F := F) (idC0 m c)) (k0_pay4 (F := F) (idC1 m c)) (k0_pay5 (xsC m c) (rwC m c) (idC0 m c)) (k0_pay7 (k0_pay6 (xsC m c) (rwC m c) (idC1 m c)))
    (k0_pay8 (k0_pay5 (xsC m c) (rwC m c) (idC0 m c)) (k0_pay6 (xsC m c) (rwC m c) (idC1 m c)))

/-- A buffer with the four column blocks written into it. -/
def xgOver (c : Dev nD) (f : (cc0_scratch0 : Ref sig .tc).ty.Contents (Elt F)) : (cc0_scratch0 : Ref sig .tc).ty.Contents (Elt F) :=
  (xgB.access colR3).write (Elt F) ((xgB.access colR2).write (Elt F) ((xgB.access colR1).write (Elt F)
    ((xgB.access colR0).write (Elt F) f (col0 m c) Finset.univ) (col1 m c) Finset.univ) (col2 m c) Finset.univ) (col3 m c) Finset.univ

/-- Column block `j`. -/
def colOf (c : Dev nD) : ℕ → Vec F S1024x512 .bf16
  | 0 => col0 m c
  | 1 => col1 m c
  | 2 => col2 m c
  | _ => col3 m c

/-- The buffer the four column blocks make up: column `512 j + d` is column `d` of block `j`. -/
def XG (c : Dev nD) : (cc0_scratch0 : Ref sig .tc).ty.Contents (Elt F) :=
  fun i => colOf m c ((i 1).val / 512) (ix2 (i 0) ⟨(i 1).val % 512, Nat.mod_lt _ (by decide)⟩)

/-- Four column blocks of 512 written side by side, read at row `r` and column `512 j + d`: block `j` at (`r`, `d`). -/
theorem read_cols (w0 w1 w2 w3 : S1024x512.Idx → Elt F .bf16) (f : (cc0_scratch0 : Ref sig .tc).ty.Contents (Elt F)) (r : Fin 1024) (d : Fin 2048)
    (w : ℕ → S1024x512.Idx → Elt F .bf16) (h0 : w 0 = w0) (h1 : w 1 = w1) (h2 : w 2 = w2) (h3 : w 3 = w3) :
    xgB.view.read (Elt F) (xgB.view.writes (Elt F) f [⟨colR3, w3⟩, ⟨colR2, w2⟩, ⟨colR1, w1⟩, ⟨colR0, w0⟩]) (ix2 r d)
      = w (d.val / 512) (ix2 r ⟨d.val % 512, Nat.mod_lt _ (by decide)⟩) := by
  have hd := d.isLt
  have key (j : ℕ) (hj : 512 * j ≤ d.val ∧ d.val < 512 * j + 512) : w (d.val / 512) (ix2 r ⟨d.val % 512, Nat.mod_lt _ (by decide)⟩) = w j (ix2 r ⟨d.val - 512 * j, by omega⟩) := by
    have h1 : d.val / 512 = j := by omega
    have h2 : d.val % 512 = d.val - 512 * j := by omega
    subst h1
    congr 2
    exact Fin.ext h2
  by_cases c3 : 1536 ≤ d.val
  · rw [key 3 (by omega), h3]
    exact View.read_writes_cons_unit_of_mem xgB.view f _ w3 _ (ix2 r d) (ix2 r ⟨d.val - 512 * 3, by omega⟩) rfl
      (fun a => by fin_cases a <;> simp <;> omega)
  refine (View.read_writes_cons_unit_of_not_mem xgB.view f (off := ![0, 1536]) (size := S1024x512.size) _ w3 _ (ix2 r d) rfl 1 (Or.inl (show d.val < 1536 by omega))).trans ?_
  by_cases c2 : 1024 ≤ d.val
  · rw [key 2 (by omega), h2]
    exact View.read_writes_cons_unit_of_mem xgB.view f _ w2 _ (ix2 r d) (ix2 r ⟨d.val - 512 * 2, by omega⟩) rfl
      (fun a => by fin_cases a <;> simp <;> omega)
  refine (View.read_writes_cons_unit_of_not_mem xgB.view f (off := ![0, 1024]) (size := S1024x512.size) _ w2 _ (ix2 r d) rfl 1 (Or.inl (show d.val < 1024 by omega))).trans ?_
  by_cases c1 : 512 ≤ d.val
  · rw [key 1 (by omega), h1]
    exact View.read_writes_cons_unit_of_mem xgB.view f _ w1 _ (ix2 r d) (ix2 r ⟨d.val - 512 * 1, by omega⟩) rfl
      (fun a => by fin_cases a <;> simp <;> omega)
  refine (View.read_writes_cons_unit_of_not_mem xgB.view f (off := ![0, 512]) (size := S1024x512.size) _ w1 _ (ix2 r d) rfl 1 (Or.inl (show d.val < 512 by omega))).trans ?_
  rw [key 0 (by omega), h0]
  exact View.read_writes_cons_unit_of_mem xgB.view f _ w0 _ (ix2 r d) (ix2 r ⟨d.val - 512 * 0, by omega⟩) rfl
      (fun a => by fin_cases a <;> simp)

/-- The four blocks cover the buffer: what it held before does not matter. -/
theorem xgOver_eq (c : Dev nD) (f : (cc0_scratch0 : Ref sig .tc).ty.Contents (Elt F)) : xgOver m c f = XG m c := by
  funext i
  have h := read_cols (col0 m c) (col1 m c) (col2 m c) (col3 m c) f (i 0) (i 1) (colOf m c) rfl rfl rfl rfl
  have hi : (ix2 (i 0) (i 1) : S1024x2048.Idx) = i := by funext a; fin_cases a <;> rfl
  rw [hi] at h
  exact h

/-- The device's four experts one under the other. -/
def EW (c : Dev nD) : Vec F S2048x1024 .bf16 := k0_pay9 (ewC m c)

/-! ## The blocks sent and the result -/

/-- The place in the token buffer of the 128 rows that belong to `up c k`. -/
abbrev rowR (c : Dev nD) (k : Fin 7) : Rect S1024x2048 :=
  Rect.unit (s := S1024x2048) (k0_off1 c (BitVec.ofNat 32 (1 + k.val))) S128x2048.size (k0_off1_inb c k)
/-- The place of the 128 rows that belong to `c` itself. -/
abbrev ownR (c : Dev nD) : Rect S1024x2048 :=
  Rect.unit (s := S1024x2048) (k0_off2 c) S128x2048.size (k0_off2_inb c)

/-- The rows of the token buffer that belong to `up c k`. -/
def rowsC (c : Dev nD) (k : Fin 7) : Vec F S128x2048 .bf16 := xgB.view.readAt (Elt F) (rowR c k).toLoadRect (XG m c)
/-- The rows of the token buffer that belong to `c` itself. -/
def ownC (c : Dev nD) : Vec F S128x2048 .bf16 := xgB.view.readAt (Elt F) (ownR c).toLoadRect (XG m c)

/-- The block device `c` sends from slot `k`, to `up c k`. -/
def blk (c : Dev nD) (k : Fin 7) : Vec F S1x128x1024 .bf16 := k0_pay15 (rowsC m c k) (EW m c)

/-- The block device `c` receives in slot `k`. -/
def got (c : Dev nD) (k : Fin 7) : Vec F S1x128x1024 .bf16 := blk m (dn c k) k

/-- The device's own share of its result. -/
def own (c : Dev nD) : Vec F S128x1024 .f32 := k0_pay23 (ownC m c) (EW m c)

/-- The result: the own share, and the seven received blocks added to it in the order of their slots. -/
def outC (c : Dev nD) : Vec F S128x1024 .f32 :=
  k0_pay24 (k0_pay24 (k0_pay24 (k0_pay24 (k0_pay24 (k0_pay24 (k0_pay24 (own m c) (got m c 0)) (got m c 1)) (got m c 2)) (got m c 3)) (got m c 4)) (got m c 5)) (got m c 6)

end Cert.Moe

end
-- ==== Proof.Schedule.lean ====
/-
# 01_k, `Schedule`: the duties on each semaphore, and what a device owes

One round on every semaphore. A device's barrier has seven duties of one unit: duty `k` is paid by the device
`up c k`, which hands over its receive slot `k`. A send semaphore's one duty gives the sent slot back; a receive
semaphore's one duty gives the slot with the block that was sent.
-/
module

public import proofs.«01_k».proof.Proof.Contents

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Slots held -/

/-- Device `c` holds its send slot `k` at contents `f`. -/
def sendPts (c : Dev nD) (k : Fin 7) (f : Buf (Elt F) ((c : Thread nD τ).loc cc0_scratch2)) : sProp 𝕄 :=
  ((c : Thread nD τ).loc cc0_scratch2) ↦[(sendB.access (slotR k)).set]{fullShare} f
/-- Device `c`'s receive slot `k` at contents `f`. -/
def recvPts (c : Dev nD) (k : Fin 7) (f : Buf (Elt F) ((c : Thread nD τ).loc cc0_scratch3)) : sProp 𝕄 :=
  ((c : Thread nD τ).loc cc0_scratch3) ↦[(recvB.access (slotR k)).set]{fullShare} f

omit [FloatOps F] in
/-- A send slot may be handed over on a semaphore, -/
instance sendPts_storable (c : Dev nD) (k : Fin 7) (f) : BI.Storable (upEmb : UEmb _ 𝕄) (sendPts (F := F) c k f) := by unfold sendPts; infer_instance
omit [FloatOps F] in
/-- and so may a receive slot. -/
instance recvPts_storable (c : Dev nD) (k : Fin 7) (f) : BI.Storable (upEmb : UEmb _ 𝕄) (recvPts (F := F) c k f) := by unfold recvPts; infer_instance

/-! ## The schedule -/

/-- A barrier signal hands over the signaller's receive slot that the receiver of the signal will fill. -/
def barPay (c : Dev nD) (k : Fin 7) : sProp 𝕄 := iprop(∃ f, recvPts (up c k) k f)
/-- A copy's end hands its source slot back to the sender. -/
def sendPay (c : Dev nD) (k : Fin 7) : sProp 𝕄 := iprop(∃ f, sendPts c k f)
/-- A copy's arrival hands over the receive slot with the block in it. -/
def recvPay (c : Dev nD) (k : Fin 7) : sProp 𝕄 :=
  iprop(∃ f, ⌜(recvB.access (slotR k)).read (Elt F) f = got m c k⌝ ∗ recvPts c k f)

/-- What is handed over on a semaphore of use `u` of device `c` by duty `d`. -/
def payOf (c : Dev nD) (d : Fin 7) : Use → sProp 𝕄
  | .bar => barPay c d
  | .send k => sendPay c k
  | .recv k => recvPay m c k
  | .none => iprop(emp)

/-- Seven signals come to a barrier, one copy to any other semaphore. -/
def dutiesOf : Use → Finset (Fin 7)
  | .bar => Finset.univ
  | .send _ => {0}
  | .recv _ => {0}
  | .none => ∅

/-- The schedule: one round, its duties, what each is worth, what each hands over. -/
def Rd : Rounds.Schedule (GSem nD τ sig) (Fin 7) 𝕄 where
  duties g r := if r = 0 then dutiesOf (useOf g.2) else ∅
  unitless _ := False
  amount g _ _ := if useOf g.2 = .bar then 1 else N
  payload g _ d := payOf m g.1.1 d (useOf g.2)
  amount_pos g _ _ _ := by
    split
    · exact Nat.one_pos
    · exact N_pos

/-- Whatever is handed over may be. -/
instance Rd_payload_storable (g : GSem nD τ sig) (r : ℕ) (d : Fin 7) :
    BI.Storable (upEmb : UEmb _ 𝕄) ((Rd (F := F) m).payload g r d) := by
  show BI.Storable upEmb (payOf m g.1.1 d (useOf g.2))
  cases useOf g.2 <;> dsimp only [payOf, barPay, sendPay, recvPay] <;> infer_instance

section Tables
variable (c : Dev nD) (k : Fin 7)

/-- Seven duties at a barrier, -/
theorem duties_bar : (Rd (F := F) m).duties (barCell c) 0 = Finset.univ := by
  show (if 0 = 0 then dutiesOf (useOf (.reg barS)) else ∅) = _
  rw [if_pos rfl, use_bar]; rfl
/-- one at a send semaphore, -/
theorem duties_send : (Rd (F := F) m).duties (sendCell c k) 0 = {0} := by
  show (if 0 = 0 then dutiesOf (useOf (.dma (sendQ k))) else ∅) = _
  rw [if_pos rfl, use_send]; rfl
/-- one at a receive semaphore. -/
theorem duties_recv : (Rd (F := F) m).duties (recvCell c k) 0 = {0} := by
  show (if 0 = 0 then dutiesOf (useOf (.dma (recvQ k))) else ∅) = _
  rw [if_pos rfl, use_recv]; rfl
/-- Only round 0 has duties. -/
theorem duties_later (g : GSem nD τ sig) : ∀ r, 1 ≤ r → (Rd (F := F) m).duties g r = ∅ :=
  fun r hr => if_neg (by omega)

/-- A signal is worth one unit, -/
theorem amount_bar (d : Fin 7) : (Rd (F := F) m).amount (barCell c) 0 d = 1 := by
  show (if useOf (.reg barS) = .bar then 1 else N) = 1; exact if_pos use_bar
/-- a copy its credit to the sender -/
theorem amount_send (d : Fin 7) : (Rd (F := F) m).amount (sendCell c k) 0 d = N :=
  if_neg (by show ¬ useOf (.dma (sendQ k)) = .bar; rw [use_send]; exact fun h => by cases h)
/-- and to the receiver. -/
theorem amount_recv (d : Fin 7) : (Rd (F := F) m).amount (recvCell c k) 0 d = N :=
  if_neg (by show ¬ useOf (.dma (recvQ k)) = .bar; rw [use_recv]; exact fun h => by cases h)

/-- A barrier waits for seven units, -/
theorem expect_bar : (Rd (F := F) m).expect (barCell c) 0 = 7 := by
  unfold Schedule.expect Schedule.amountOf
  rw [duties_bar, Finset.sum_congr rfl fun d _ => amount_bar m c d]; rfl
/-- a send semaphore for one copy, -/
theorem expect_send : (Rd (F := F) m).expect (sendCell c k) 0 = N := by
  unfold Schedule.expect Schedule.amountOf; rw [duties_send, Finset.sum_singleton, amount_send]
/-- a receive semaphore for one copy. -/
theorem expect_recv : (Rd (F := F) m).expect (recvCell c k) 0 = N := by
  unfold Schedule.expect Schedule.amountOf; rw [duties_recv, Finset.sum_singleton, amount_recv]

/-- What a duty hands over at a barrier, -/
theorem payload_bar (d : Fin 7) : (Rd (F := F) m).payload (barCell c) 0 d = barPay c d := by
  show payOf m c d (useOf (.reg barS)) = _; rw [use_bar]; rfl
/-- at a send semaphore, -/
theorem payload_send (d : Fin 7) : (Rd (F := F) m).payload (sendCell c k) 0 d = sendPay c k := by
  show payOf m c d (useOf (.dma (sendQ k))) = _; rw [use_send]; rfl
/-- at a receive semaphore. -/
theorem payload_recv (d : Fin 7) : (Rd (F := F) m).payload (recvCell c k) 0 d = recvPay m c k := by
  show payOf m c d (useOf (.dma (recvQ k))) = _; rw [use_recv]; rfl

/-- What a whole round hands over at a barrier, -/
theorem rest_bar : bigSep ((Rd (F := F) m).duties (barCell c) 0 \ ∅) (fun d => (Rd (F := F) m).payload (barCell c) 0 d)
    = bigSep Finset.univ (fun d => barPay (F := F) c d) := by
  rw [Finset.sdiff_empty, duties_bar]; exact bigSep_congr fun d _ => payload_bar m c d
/-- at a send semaphore, -/
theorem rest_send : bigSep ((Rd (F := F) m).duties (sendCell c k) 0 \ ∅) (fun d => (Rd (F := F) m).payload (sendCell c k) 0 d) = sendPay c k := by
  rw [Finset.sdiff_empty, duties_send, bigSep_singleton, payload_send]
/-- at a receive semaphore. -/
theorem rest_recv : bigSep ((Rd (F := F) m).duties (recvCell c k) 0 \ ∅) (fun d => (Rd (F := F) m).payload (recvCell c k) 0 d) = recvPay m c k := by
  rw [Finset.sdiff_empty, duties_recv, bigSep_singleton, payload_recv]

end Tables

/-! ## What a device owes -/

/-- Device `c` owes the receive semaphores of slots `a, …, 6` on the devices it sends them to, and a unit to the
    barriers of the devices `b + 1, …, 7` places after it. -/
def owe (c : Dev nD) (a b : ℕ) : CellTallies nD τ sig Unit :=
  (∑ k : Fin 7, if a ≤ k.val then tallyAt (recvCell (up c k) k) () N else 0)
    + ∑ k : Fin 7, if b ≤ k.val then tallyAt (barCell (up c k)) () 1 else 0

/-- The terms from `k` on are the term `k` and those after it. -/
theorem sum_peel {M : Type} [AddCommMonoid M] (f : Fin 7 → M) (k : Fin 7) :
    (∑ j : Fin 7, if k.val ≤ j.val then f j else 0) = (∑ j : Fin 7, if k.val + 1 ≤ j.val then f j else 0) + f k := by
  have h : ∀ j : Fin 7, (if k.val ≤ j.val then f j else 0) = (if k.val + 1 ≤ j.val then f j else 0) + (if j = k then f j else 0) := by
    intro j
    by_cases h1 : j = k
    · subst h1; rw [if_pos (Nat.le_refl _), if_neg (by omega), if_pos rfl, zero_add]
    · have : j.val ≠ k.val := fun h => h1 (Fin.ext h)
      rw [if_neg h1, add_zero]
      by_cases h2 : k.val ≤ j.val
      · rw [if_pos h2, if_pos (by omega)]
      · rw [if_neg h2, if_neg (by omega)]
  rw [Finset.sum_congr rfl fun j _ => h j, Finset.sum_add_distrib, Finset.sum_ite_eq' Finset.univ k f, if_pos (Finset.mem_univ _)]

/-- A signal pays one barrier unit. -/
theorem owe_bar (c : Dev nD) (a : ℕ) (k : Fin 7) : owe c a k.val = owe c a (k.val + 1) + tallyAt (barCell (up c k)) () 1 := by
  unfold owe; rw [sum_peel (fun j => tallyAt (barCell (up c j)) () 1) k, add_assoc]

/-- A copy pays one receive credit. -/
theorem owe_recv (c : Dev nD) (b : ℕ) (k : Fin 7) : owe c k.val b = owe c (k.val + 1) b + tallyAt (recvCell (up c k) k) () N := by
  unfold owe; rw [sum_peel (fun j => tallyAt (recvCell (up c j) j) () N) k, add_right_comm]

/-- After the seven signals and the seven copies nothing is owed. -/
theorem owe_done (c : Dev nD) : owe c 7 7 = 0 := by
  unfold owe
  rw [Finset.sum_eq_zero fun j _ => if_neg (by have := j.isLt; omega), Finset.sum_eq_zero fun j _ => if_neg (by have := j.isLt; omega), add_zero]

/-- A positive sum has a positive term. -/
theorem sum_pos_term {f : Fin 7 → CellTallies nD τ sig Unit} {n : ℕ} {g : GSem nD τ sig} {u : Unit}
    (h : 0 < (∑ k : Fin 7, if n ≤ k.val then f k else 0) g u) : ∃ k : Fin 7, n ≤ k.val ∧ 0 < f k g u := by
  rw [Finset.sum_apply, Finsupp.finsetSum_apply] at h
  obtain ⟨k, -, hk⟩ := Finset.exists_ne_zero_of_sum_ne_zero (Nat.pos_iff_ne_zero.mp h)
  by_cases hn : n ≤ k.val
  · rw [if_pos hn] at hk; exact ⟨k, hn, Nat.pos_of_ne_zero hk⟩
  · rw [if_neg hn] at hk; exact absurd rfl hk

/-- A tally at one cell is positive at that cell only. -/
theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- What is owed is owed to a receive semaphore, or to a barrier while signals are still to come. -/
theorem owe_pos {c : Dev nD} {a b : ℕ} {g : GSem nD τ sig} {u : Unit} (h : 0 < owe c a b g u) :
    (∃ k, g = recvCell (up c k) k) ∨ (b < 7 ∧ ∃ k, g = barCell (up c k)) := by
  unfold owe at h
  rw [Pi.add_apply, Finsupp.add_apply] at h
  rcases Nat.eq_zero_or_pos ((∑ k : Fin 7, if a ≤ k.val then (tallyAt (recvCell (up c k) k) () N : CellTallies nD τ sig Unit) else 0) g u) with h1 | h1
  · rw [h1, Nat.zero_add] at h
    obtain ⟨k, hk, hp⟩ := sum_pos_term h
    exact Or.inr ⟨by have := k.isLt; omega, k, tally_pos hp⟩
  · obtain ⟨k, -, hp⟩ := sum_pos_term h1
    exact Or.inl ⟨k, tally_pos hp⟩

/-! ## Levels -/

/-- Every cell of a device's core has the one label. -/
def L (g : GSem nD τ sig) : Finset Unit := if g.1.2 = .tc then {()} else ∅
/-- The level of each use. -/
def lvOf : Use → ℕ
  | .bar => 1
  | .send _ => 0
  | .recv _ => 2
  | .none => 0
/-- Barriers at level 1, receive semaphores at 2, every other semaphore at 0. -/
def lv (g : GSem nD τ sig) (_ : Unit) : ℕ := lvOf (useOf g.2)

/-- No other cell has a label, -/
theorem L_of_ne (g : GSem nD τ sig) (h : g.1.2 ≠ .tc) : L g = ∅ := if_neg h
/-- and these have it. -/
theorem L_tc (c : Dev nD) (sm : SemLoc sig) : L ((c : Thread nD τ), sm) = {()} := if_pos rfl

/-- The barrier's level, -/
theorem lv_bar (c : Dev nD) (u : Unit) : lv (barCell c) u = 1 := by show lvOf (useOf (.reg barS)) = 1; rw [use_bar]; rfl
/-- and the receive semaphores'. -/
theorem lv_recv (c : Dev nD) (k : Fin 7) (u : Unit) : lv (recvCell c k) u = 2 := by show lvOf (useOf (.dma (recvQ k))) = 2; rw [use_recv]; rfl

/-- A wait on a semaphore of level `n` is allowed when everything owed is above it. -/
theorem mayWait_of_level (c : Dev nD) (sm : SemLoc sig) (n : ℕ) (O : CellTallies nD τ sig Unit) (hn : lv ((c : Thread nD τ), sm) () = n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp, hn])
    (fun g u hg => (hO g u hg).2)

/-- The barrier wait: only receive credits are owed. -/
theorem mayWait_bar (c : Dev nD) : (levAts L lv : sProp 𝕄) ⊢ MayWait (c : Thread nD τ) (.reg barS) () (owe c 0 7) :=
  mayWait_of_level c _ 1 _ (lv_bar c ()) fun g u hg => by
    rcases owe_pos hg with ⟨k, rfl⟩ | ⟨h, -⟩
    · exact ⟨rfl, by rw [lv_recv]; decide⟩
    · exact absurd h (by decide)

/-- The waits of the staging copies. -/
theorem mayWait_stage (c : Dev nD) (q : DmaSem sig) (hq : useOf (.dma q) = .none) (O : CellTallies nD τ sig Unit) (hO : O = owe c 0 0 ∨ O = 0) :
    (levAts L lv : sProp 𝕄) ⊢ MayWait (c : Thread nD τ) (.dma q) () O := by
  rcases hO with rfl | rfl
  · refine mayWait_of_level c _ 0 _ (by show lvOf (useOf (.dma q)) = 0; rw [hq]; rfl) fun g u hg => ?_
    rcases owe_pos hg with ⟨k, rfl⟩ | ⟨-, k, rfl⟩
    · exact ⟨rfl, by rw [lv_recv]; decide⟩
    · exact ⟨rfl, by rw [lv_bar]; decide⟩
  · rw [MayWait_zero]; iintro -; iempintro

end Cert.Moe

end
-- ==== Proof.Steps.lean ====
/-
# 01_k, `Steps`: the kernel's synchronising operations, one rule each

A signal, a copy and the two waits, each at any of the seven slots. The device's set-up is one persistent record: the
invariant of every semaphore of every device and that each has reached round 0.
-/
module

public import proofs.«01_k».proof.Proof.Schedule

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel has no loop that needs a measure. -/
abbrev 𝒱₀ : Variants := Variants.none

/-- Every semaphore's invariant, and that every semaphore has reached round 0. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

/-- Both may be used again and again. -/
instance records_persistent (K : Dev nD × CI → ℕ) : BI.Persistent (records m K) := by unfold records; infer_instance

variable (K : Dev nD × CI → ℕ)

/-- One semaphore's invariant out of all of them, -/
theorem rec_inv (ck : Dev nD × CI) : (records m K : sProp 𝕄) ⊢ cellInv ER (Rd m) (K ck) (kcell ck) := by
  unfold records
  exact sep_elim_left.trans (bigSep_elim (Finset.mem_univ ck))
/-- and that one semaphore has reached round 0. -/
theorem rec_reached (ck : Dev nD × CI) : (records m K : sProp 𝕄) ⊢ reached ER (kcell ck) 0 := by
  unfold records
  exact sep_elim_right.trans (bigSep_elim (Finset.mem_univ ck))

/-- What device `c` owes, whatever it has waited on. -/
def ow (c : Dev nD) (O : CellTallies nD τ sig Unit) : sProp 𝕄 := iprop(∃ W, owes (c : Thread nD τ) O W)

variable {α : Type} (Q : α → sProp (MT nD τ sig Unit (Elt F) ℕ UU ℕ))

/-- Signal `i`: the barrier of the device `i + 1` places after `c` gets its unit, and that device `c`'s receive slot. -/
theorem step_signal (c n : Dev nD) (i j : Fin 7) (hn : n = up c i) (hj : Fin.rev i = j) (a a' : ℕ) (ha : i.val = a) (ha' : i.val + 1 = a') {u : ℕ} (hu : u = 1) {k : PUnit → Prog (TpuEff nD τ sig (Elt F) Λ₀ .tc) α} :
    (records m K : sProp 𝕄) ⊢ iprop(ow c (owe c 0 a) -∗ dutyTok ER (barCell (up c i)) 0 (Fin.rev i) -∗ (∃ f, recvPts c j f)
      -∗ (ow c (owe c 0 a') -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS u) k) Q) := by
  subst hn hu hj ha ha'
  iintro #HR HO Ht Hp Hk
  unfold ow
  icases HO with ⟨%W, HO⟩
  iapply (Rounds.wp_signal 𝒱₀ ER (Rd m) (c : Thread nD τ) none (dst := (up c i : Thread nD τ)) (κ := K (up c i, .inl ()))
      (d := Fin.rev i) (by rw [duties_bar]; exact Finset.mem_univ _) (amount_bar m (up c i) (Fin.rev i)) () (owe c 0 (i.val + 1)) (owe_bar c 0 i))
    $$ [HO Ht Hp]
  · isplitr; · iapply (rec_inv m K (up c i, .inl ())); iexact HR
    isplitl [HO]; · iexact HO
    isplitl [Ht]; · iexact Ht
    isplitl [Hp]
    · rw [payload_bar]; unfold barPay; rw [show up (up c i) (Fin.rev i) = c from dn_up c i]; iexact Hp
    · iapply (rec_reached m K (up c i, .inl ())); iexact HR
  iintro HO
  iapply Hk
  iexists W; iexact HO

/-- The barrier wait: the seven other devices' receive slots. -/
theorem step_barrier (c : Dev nD) {u : ℕ} (hu : u = 7) {k : PUnit → Prog (TpuEff nD τ sig (Elt F) Λ₀ .tc) α} :
    (records m K : sProp 𝕄) ⊢ iprop(levAts L lv -∗ ow c (owe c 0 7) -∗ cred (tallyAt (barCell c) () 7) -∗ atPos ER (barCell c) 0 ∅ 0
      -∗ (ow c (owe c 0 7) -∗ atPos ER (barCell c) 1 ∅ 0 -∗ (bigSep Finset.univ fun j : Fin 7 => barPay c j)
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS u) k) Q) := by
  subst hu
  iintro #HR Hlev HO Hc Hat Hk
  unfold ow
  icases HO with ⟨%W, HO⟩
  iapply (Rounds.wp_wait_rest_token 𝒱₀ ER (Rd m) (c : Thread nD τ) none (κ := K (c, .inl ()))
      (wpE_semWait_eq 𝒱₀ (c : Thread nD τ) none Set.univ) (Set.mem_univ _) () (O := owe c 0 7) (W := W) (R := 0) (m := 0) (T := ∅)
      (by rw [expect_bar])) $$ [Hlev Hc HO Hat]
  · isplitr; · iapply (rec_inv m K (c, .inl ())); iexact HR
    isplitl [Hc]; · iexact Hc
    isplitl [HO]; · iexact HO
    isplitl [Hlev]; · iapply (mayWait_bar c); iexact Hlev
    iexact Hat
  iintro ⟨HO, Hat, -, Hp⟩
  ihave Hp := (Entails.of_eq (rest_bar m c)) $$ Hp
  iapply Hk $$ [HO] Hat Hp
  iexists _; iexact HO

/-- A held send slot, spelled as the copy's source. -/
theorem sendPts_eq (c : Dev nD) (i : Fin 7) (f : Buf (Elt F) ((c : Thread nD τ).loc cc0_scratch2)) :
    (sendPts c i f : sProp 𝕄) = ((slotOf sendB i).view.loc (c : Thread nD τ) ↦[(slotOf sendB i).view.set]{fullShare} f) := by
  unfold sendPts
  exact congrArg (fun S => (((c : Thread nD τ).loc cc0_scratch2) ↦[S]{fullShare} f : sProp 𝕄)) (slotOf_set sendB i).symm
/-- A held receive slot, spelled as the copy's target. -/
theorem recvPts_eq (c : Dev nD) (i : Fin 7) (f : Buf (Elt F) ((c : Thread nD τ).loc cc0_scratch3)) :
    (recvPts c i f : sProp 𝕄) = ((slotOf recvB i).view.loc (c : Thread nD τ) ↦[(slotOf recvB i).view.set]{fullShare} f) := by
  unfold recvPts
  exact congrArg (fun S => (((c : Thread nD τ).loc cc0_scratch3) ↦[S]{fullShare} f : sProp 𝕄)) (slotOf_set recvB i).symm

/-- The source slot is what the send semaphore gives back. -/
theorem sent_pays (c : Dev nD) (i : Fin 7) (fs : Buf (Elt F) ((c : Thread nD τ).loc cc0_scratch2)) :
    ((slotOf sendB i).view.loc (c : Thread nD τ) ↦[(slotOf sendB i).view.set]{fullShare} fs : sProp 𝕄) ⊢ (Rd m).payload (sendCell c i) 0 0 := by
  rw [← sendPts_eq, payload_send]; unfold sendPay
  iintro H; iexists fs; iexact H

/-- The landed slot is what the receive semaphore hands over. -/
theorem landed_pays (c : Dev nD) (i : Fin 7) (fs : Buf (Elt F) ((c : Thread nD τ).loc cc0_scratch2)) (hfs : (sendB.access (slotR i)).read (Elt F) fs = blk m c i)
    (fd : Buf (Elt F) ((up c i : Thread nD τ).loc cc0_scratch3)) :
    ((slotOf recvB i).view.loc (up c i : Thread nD τ) ↦[(slotOf recvB i).view.set]{fullShare}
        ((slotOf recvB i).view.write (Elt F) fd ((slotOf sendB i).view.read (Elt F) fs) Finset.univ) : sProp 𝕄)
      ⊢ (Rd m).payload (recvCell (up c i) i) 0 0 := by
  have h : (recvB.access (slotR i)).read (Elt F) ((slotOf recvB i).view.write (Elt F) fd ((slotOf sendB i).view.read (Elt F) fs) Finset.univ) = got m (up c i) i := by
    unfold got; rw [dn_up]
    exact (slot_roundtrip (v := sendB.access (slotR i)) (v' := recvB.access (slotR i)) squeezes_S1x128x1024_S128x1024.numel_eq fs fd).trans hfs
  generalize (slotOf recvB i).view.write (Elt F) fd ((slotOf sendB i).view.read (Elt F) fs) Finset.univ = g at h ⊢
  rw [← recvPts_eq (up c i) i g, payload_recv]; unfold recvPay
  iintro H; iexists g
  isplitr; · (ipureintro; exact h)
  iexact H

/-- Copy `i`: the block in send slot `i` goes to slot `i` of the device `i + 1` places after `c`. -/
theorem step_send (c n : Dev nD) (i : Fin 7) (hn : n = up c i) {hsc : (slotOf recvB i : Memref sig (Dev.tc n : Thread nD τ).2.kind .vmem S128x1024 .bf16).view.ref.isScScratch = false}
    {hsrc : (slotOf sendB i).view.WordExact} {hdst : (slotOf recvB i).view.WordExact}
    {hsem : DmaTarget.Typed .vmem (.dma (recvQ i)) (.remote (Dev.tc n : Thread nD τ) (slotOf recvB i) (.dma (sendQ i)) hsc)}
    {k : PUnit → Prog (TpuEff nD τ sig (Elt F) Λ₀ .tc) α}
    (fs : Buf (Elt F) ((c : Thread nD τ).loc cc0_scratch2)) (hfs : (sendB.access (slotR i)).read (Elt F) fs = blk m c i) :
    (records m K : sProp 𝕄) ⊢ iprop(sendPts c i fs -∗ barPay c i -∗ ow c (owe c i.val 7)
      -∗ dutyTok ER (sendCell c i) 0 0 -∗ dutyTok ER (recvCell (up c i) i) 0 0
      -∗ (cred (tallyAt (sendCell c i) () N) -∗ ow c (owe c (i.val + 1) 7) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (slotOf sendB i) (.remote (Dev.tc n : Thread nD τ) (slotOf recvB i) (.dma (sendQ i)) hsc) (.dma (recvQ i)) hsrc hdst hsem) k) Q) := by
  subst hn
  unfold barPay ow
  iintro #HR Hs ⟨%fd, Hd⟩ ⟨%W, HO⟩ HtS HtR Hk
  iapply (Rounds.wp_send_pointsTo 𝒱₀ ER (Rd m) (c : Thread nD τ) none (c' := (up c i : Thread nD τ)) (κ₁ := K (c, .inr (.inl i))) (κ₂ := K (up c i, .inr (.inr i)))
    (src := slotOf sendB i) (dst := slotOf recvB i) (sS := .dma (sendQ i)) (sem := .dma (recvQ i))
    (r₁ := 0) (r₂ := 0) (d₁ := 0) (d₂ := 0) (fs := fs) (fd := fd) (q := fullShare)
    (by rw [duties_send]; exact Finset.mem_singleton_self _) (by rw [duties_recv]; exact Finset.mem_singleton_self _)
    () () N rfl (amount_send m c i 0) (amount_recv m (up c i) i 0) (owe c (i.val + 1) 7) (owe_recv c 7 i) (W := W)
    (sent_pays m c i fs) (landed_pays m c i fs hfs fd)) $$ [Hs Hd HO HtS HtR]
  · isplitr; · iapply (rec_inv m K (c, .inr (.inl i))); iexact HR
    isplitr; · iapply (rec_inv m K (up c i, .inr (.inr i))); iexact HR
    isplitl [Hs]; · rw [← sendPts_eq]; iexact Hs
    isplitl [Hd]; · rw [← recvPts_eq]; iexact Hd
    isplitl [HO]; · iexact HO
    isplitl [HtS]; · iexact HtS
    isplitr; · iapply (rec_reached m K (c, .inr (.inl i))); iexact HR
    isplitl [HtR]; · iexact HtR
    iapply (rec_reached m K (up c i, .inr (.inr i))); iexact HR
  iintro ⟨Hc, HO⟩
  iapply Hk $$ Hc
  iexists W; iexact HO

/-- The wait for received block `i`. -/
theorem step_waitRecv (c : Dev nD) (i : Fin 7) {src dst : Memref sig .tc .vmem S128x1024 .bf16} (hN : dst.view.dmaCredit = N)
    {h₁ : src.view.WordExact} {h₂ : dst.view.WordExact} {k : PUnit → Prog (TpuEff nD τ sig (Elt F) Λ₀ .tc) α} :
    (records m K : sProp 𝕄) ⊢ iprop(cred (tallyAt (recvCell c i) () N) -∗ ow c 0 -∗ atPos ER (recvCell c i) 0 ∅ 0
      -∗ (ow c 0 -∗ atPos ER (recvCell c i) 1 ∅ 0 -∗ recvPay m c i -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (recvQ i) src dst h₁ h₂) k) Q) := by
  iintro #HR Hc HO Hat Hk
  unfold ow
  icases HO with ⟨%W, HO⟩
  iapply (Rounds.wp_wait_rest_token 𝒱₀ ER (Rd m) (c : Thread nD τ) none (κ := K (c, .inr (.inr i)))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (rec_inv m K (c, .inr (.inr i))); iexact HR
    isplitl [Hc]; · rw [hN]; iexact Hc
    isplitl [HO]; · iexact HO
    isplitr; · rw [MayWait_zero]; iempintro
    iexact Hat
  iintro ⟨HO, Hat, -, Hp⟩
  ihave Hp := (Entails.of_eq (rest_recv m c i)) $$ Hp
  iapply Hk $$ [HO] Hat Hp
  iexists _; iexact HO

/-- The wait for copy `i` to have left: the send slot comes back. -/
theorem step_waitSend (c : Dev nD) (i : Fin 7) {src dst : Memref sig .tc .vmem S128x1024 .bf16} (hN : dst.view.dmaCredit = N)
    {h₁ : src.view.WordExact} {h₂ : dst.view.WordExact} {k : PUnit → Prog (TpuEff nD τ sig (Elt F) Λ₀ .tc) α} :
    (records m K : sProp 𝕄) ⊢ iprop(cred (tallyAt (sendCell c i) () N) -∗ ow c 0 -∗ atPos ER (sendCell c i) 0 ∅ 0
      -∗ (ow c 0 -∗ atPos ER (sendCell c i) 1 ∅ 0 -∗ sendPay c i -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (sendQ i) src dst h₁ h₂) k) Q) := by
  iintro #HR Hc HO Hat Hk
  unfold ow
  icases HO with ⟨%W, HO⟩
  iapply (Rounds.wp_wait_rest_token 𝒱₀ ER (Rd m) (c : Thread nD τ) none (κ := K (c, .inr (.inl i)))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (rec_inv m K (c, .inr (.inl i))); iexact HR
    isplitl [Hc]; · rw [hN]; iexact Hc
    isplitl [HO]; · iexact HO
    isplitr; · rw [MayWait_zero]; iempintro
    iexact Hat
  iintro ⟨HO, Hat, -, Hp⟩
  ihave Hp := (Entails.of_eq (rest_send m c i)) $$ Hp
  iapply Hk $$ [HO] Hat Hp
  iexists _; iexact HO

end Cert.Moe

end
-- ==== Proof.Blocks.lean ====
/-
# 01_k, `Blocks`: the repeated parts of the kernel, at any slot

Computing one block and sending it; receiving one block and adding it to the result.
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- The result's staging buffer. -/
abbrev outB : Memref sig .tc .vmem S128x1024 .f32 := Memref.whole cc0_stg4_0
/-- The whole of it. -/
abbrev outR : Rect S128x1024 := Rect.unit (s := S128x1024) ![0, 0] S128x1024.size inb_S128x1024_S128x1024_0_0
/-- The whole of the expert buffer. -/
abbrev ewR : Rect S2048x1024 := Rect.unit (s := S2048x1024) ![0, 0] S2048x1024.size inb_S2048x1024_S2048x1024_0_0

/-- Two zeros are the constant zero, -/
theorem zero2 : (![0, 0] : Fin 2 → Nat) = fun _ => 0 := by funext a; fin_cases a <;> rfl
/-- and so are three. -/
theorem zero3 : (![0, 0, 0] : Fin 3 → Nat) = fun _ => 0 := by funext a; fin_cases a <;> rfl

omit [FloatOps F] in
/-- The kernel's load of the tokens reads all of their buffer, -/
theorem read_x (f : Vec F S1024x512 .bf16) : (Memref.whole cc0_stg0_0 : Memref sig .tc .vmem S1024x512 .bf16).view.readAt (Elt F)
    (Rect.unit (s := S1024x512) ![0, 0] S1024x512.size inb_S1024x512_S1024x512_0_0).toLoadRect f = f :=
  Memref.readAt_unit_zero (Elt F) cc0_stg0_0 zero2 _ f
omit [FloatOps F] in
/-- its load of the router reads all of the router's buffer, -/
theorem read_rw (f : Vec F S512x32 .bf16) : (Memref.whole cc0_stg1_0 : Memref sig .tc .vmem S512x32 .bf16).view.readAt (Elt F)
    (Rect.unit (s := S512x32) ![0, 0] S512x32.size inb_S512x32_S512x32_0_0).toLoadRect f = f :=
  Memref.readAt_unit_zero (Elt F) cc0_stg1_0 zero2 _ f
omit [FloatOps F] in
/-- its load of the experts reads all of the experts' buffer, -/
theorem read_exp (f : Vec F S4x512x1024 .bf16) : (Memref.whole cc0_stg3_0 : Memref sig .tc .vmem S4x512x1024 .bf16).view.readAt (Elt F)
    (Rect.unit (s := S4x512x1024) ![0, 0, 0] S4x512x1024.size inb_S4x512x1024_S4x512x1024_0_0_0).toLoadRect f = f :=
  Memref.readAt_unit_zero (Elt F) cc0_stg3_0 zero3 _ f
omit [FloatOps F] in
/-- and its load of the stacked experts reads all of theirs. -/
theorem read_ew (f : Vec F S2048x1024 .bf16) : ewB.view.readAt (Elt F) ewR.toLoadRect f = f :=
  Memref.readAt_unit_zero (Elt F) cc0_scratch1 zero2 _ f
omit [FloatOps F] in
/-- The store of the stacked experts replaces all of their buffer. -/
theorem write_ew (f w : Vec F S2048x1024 .bf16) : (ewB.access ewR).write (Elt F) f w Finset.univ = w :=
  Memref.write_access_unit_zero_univ (Elt F) cc0_scratch1 zero2 _ f w
omit [FloatOps F] in
/-- A load of the result reads all of its staging buffer, -/
theorem read_out (f : Vec F S128x1024 .f32) : outB.view.readAt (Elt F) outR.toLoadRect f = f :=
  Memref.readAt_unit_zero (Elt F) cc0_stg4_0 zero2 _ f
omit [FloatOps F] in
/-- and a store of the result replaces all of it. -/
theorem write_out (f w : Vec F S128x1024 .f32) : (outB.access outR).write (Elt F) f w Finset.univ = w :=
  Memref.write_access_unit_zero_univ (Elt F) cc0_stg4_0 zero2 _ f w

/-- Device `c` holds its result's staging buffer at contents `f`. -/
def outPts (c : Dev nD) (f : Vec F S128x1024 .f32) : sProp 𝕄 := ((c : Thread nD τ).loc cc0_stg4_0) ↦{fullShare} f
/-- Device `c` holds its token buffer with the gated tokens in it. -/
def xgPts (c : Dev nD) : sProp 𝕄 := ((c : Thread nD τ).loc cc0_scratch0) ↦{fullShare} (XG m c)
/-- Device `c` holds its expert buffer with its stacked experts in it. -/
def ewPts (c : Dev nD) : sProp 𝕄 := ((c : Thread nD τ).loc cc0_scratch1) ↦{fullShare} (EW m c)

variable {α : Type} (Q : α → sProp (MT nD τ sig Unit (Elt F) ℕ UU ℕ))

/-- One block: the receiver's rows by the device's experts, stored in send slot `i` and copied to the receiver. -/
theorem step_block (c n : Dev nD) (i : Fin 7) (hn : n = up c i) (a a' : ℕ) (ha : i.val = a) (ha' : i.val + 1 = a')
    {hl₁ : xgB.view.LoadsAt (rowR c i).toLoadRect} {hl₂ : ewB.view.LoadsAt ewR.toLoadRect} {hl₃ : sendB.view.LoadsAt (slotR i).toLoadRect}
    {hx : (sendB.access (slotR i)).Stores Finset.univ} {hm : (Finset.univ : Finset (slotR i).shape.Idx) = Finset.univ ∨ ∀ a, (slotR i).stride a = 1}
    (P : Vec F S128x2048 .bf16 → Vec F S2048x1024 .bf16 → Vec F S1x128x1024 .bf16) (hP : ∀ v w, P v w = k0_pay15 v w)
    {qS qR : DmaSem sig} (hqS : qS = sendQ i) (hqR : qR = recvQ i)
    {src : Memref sig .tc .vmem S128x1024 .bf16} {dst : Memref sig (Dev.tc n : Thread nD τ).2.kind .vmem S128x1024 .bf16}
    (hsE : src = slotOf sendB i) (hdE : dst = slotOf recvB i)
    {hsc : dst.view.ref.isScScratch = false} {hsrc : src.view.WordExact} {hdst : dst.view.WordExact}
    {hsem : DmaTarget.Typed .vmem (.dma qR) (.remote (Dev.tc n : Thread nD τ) dst (.dma qS) hsc)}
    {k : PUnit → Prog (TpuEff nD τ sig (Elt F) Λ₀ .tc) α} :
    (records m K : sProp 𝕄) ⊢ iprop(xgPts m c -∗ ewPts m c -∗ (∃ f, sendPts c i f) -∗ barPay c i -∗ ow c (owe c a 7)
      -∗ dutyTok ER (sendCell c i) 0 0 -∗ dutyTok ER (recvCell (up c i) i) 0 0
      -∗ (xgPts m c -∗ ewPts m c -∗ cred (tallyAt (sendCell c i) () N) -∗ ow c (owe c a' 7)
          -∗ wp frame (wpE (defs₀ (F := F)) 𝒱₀ (c : Thread nD τ) none) Set.univ (k ⟨⟩) Q)
      -∗ wp frame (wpE (defs₀ (F := F)) 𝒱₀ (c : Thread nD τ) none) Set.univ
          (.op (.load xgB (rowR c i).toLoadRect hl₁) fun v => .op (.load ewB ewR.toLoadRect hl₂) fun w => .op (.load sendB (slotR i).toLoadRect hl₃) fun _ =>
            .op (.store sendB (slotR i) (P v w) Finset.univ hx hm) fun _ =>
            .op (.enqueueDma src (.remote (Dev.tc n : Thread nD τ) dst (.dma qS) hsc) (.dma qR) hsrc hdst hsem) k) Q) := by
  subst hqS hqR hsE hdE ha ha'
  iintro #HR Hxg Hew ⟨%f, Hs⟩ Hb HO HtS HtR Hk
  unfold xgPts ewPts
  iapply (wp_load 𝒱₀ (c : Thread nD τ) none Set.univ (m := xgB) (r := (rowR c i).toLoadRect) (Finset.subset_univ _)) $$ Hxg; iintro Hxg
  iapply (wp_load 𝒱₀ (c : Thread nD τ) none Set.univ (m := ewB) (r := ewR.toLoadRect) (Finset.subset_univ _)) $$ Hew; iintro Hew
  rw [read_ew]
  unfold sendPts
  iapply (wp_load_rect 𝒱₀ (c : Thread nD τ) none Set.univ (m := sendB) (r := slotR i) (Finset.Subset.refl _)) $$ Hs; iintro Hs
  iapply (wp_store 𝒱₀ (c : Thread nD τ) none Set.univ (m := sendB) (r := slotR i) (Mk := Finset.univ) (S := (sendB.access (slotR i)).set) (Finset.Subset.refl _)) $$ Hs; iintro Hs
  rw [hP]
  iapply (step_send m K Q c n i hn ((sendB.access (slotR i)).write (Elt F) f (blk m c i) Finset.univ) (View.read_write_univ _ _)) $$ HR [Hs] Hb HO HtS HtR
  · unfold sendPts; iexact Hs
  iintro Hc HO
  iapply Hk $$ Hxg Hew Hc HO

/-- One received block added to the result. -/
theorem step_acc (c : Dev nD) (i : Fin 7) {q : DmaSem sig} (hq : q = recvQ i) {src dst : Memref sig .tc .vmem S128x1024 .bf16} (hN : dst.view.dmaCredit = N)
    {h₁ : src.view.WordExact} {h₂ : dst.view.WordExact}
    {hl₁ hl₃ : outB.view.LoadsAt outR.toLoadRect} {hl₂ : recvB.view.LoadsAt (slotR i).toLoadRect}
    {hx : (outB.access outR).Stores Finset.univ} {hm : (Finset.univ : Finset outR.shape.Idx) = Finset.univ ∨ ∀ a, outR.stride a = 1}
    (P : Vec F S128x1024 .f32 → Vec F S1x128x1024 .bf16 → Vec F S128x1024 .f32) (hP : ∀ v w, P v w = k0_pay24 v w)
    (A : Vec F S128x1024 .f32) {k : PUnit → Prog (TpuEff nD τ sig (Elt F) Λ₀ .tc) α} :
    (records m K : sProp 𝕄) ⊢ iprop(cred (tallyAt (recvCell c i) () N) -∗ ow c 0 -∗ atPos ER (recvCell c i) 0 ∅ 0 -∗ outPts c A
      -∗ (ow c 0 -∗ atPos ER (recvCell c i) 1 ∅ 0 -∗ (∃ f, recvPts c i f) -∗ outPts c (k0_pay24 A (got m c i))
          -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 q src dst h₁ h₂) fun _ => .op (.load outB outR.toLoadRect hl₁) fun a => .op (.load recvB (slotR i).toLoadRect hl₂) fun g =>
            .op (.load outB outR.toLoadRect hl₃) fun _ => .op (.store outB outR (P a g) Finset.univ hx hm) k) Q) := by
  subst hq
  iintro #HR Hc HO Hat Hout Hk
  iapply (step_waitRecv m K Q c i hN) $$ HR Hc HO Hat
  iintro HO Hat Hp
  unfold recvPay
  icases Hp with ⟨%f, %hf, Hr⟩
  unfold outPts recvPts
  iapply (wp_load 𝒱₀ (c : Thread nD τ) none Set.univ (m := outB) (r := outR.toLoadRect) (Finset.subset_univ _)) $$ Hout; iintro Hout
  rw [read_out]
  iapply (wp_load_rect 𝒱₀ (c : Thread nD τ) none Set.univ (m := recvB) (r := slotR i) (Finset.Subset.refl _)) $$ Hr; iintro Hr
  iapply (wp_load 𝒱₀ (c : Thread nD τ) none Set.univ (m := outB) (r := outR.toLoadRect) (Finset.subset_univ _)) $$ Hout; iintro Hout
  iapply (wp_store 𝒱₀ (c : Thread nD τ) none Set.univ (m := outB) (r := outR) (Mk := Finset.univ) (Finset.subset_univ _)) $$ Hout; iintro Hout
  rw [write_out, hP, hf]
  iapply Hk $$ HO Hat [Hr] Hout
  iexists f; iexact Hr

end Cert.Moe
-- ==== Proof.Resources.lean ====
/-
# 01_k, `Resources`: what a device holds before and after its body

The two slot buffers as seven slots each and back; the assertions at the two ends of the body; the one-point
pipeline's data.
-/
module

public import proofs.«01_k».proof.Proof.Blocks
public import proofs.«01_k».proof.Proof.Gen.KernelIdeal.Points

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Seven slots are a buffer -/

omit [FloatOps F] in
/-- Seven of a family, one by one. -/
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

omit [FloatOps F] in
/-- Seven of a family, put together. -/
theorem seven (Φ : Fin 7 → sProp 𝕄) : Φ 0 ⊢ iprop(Φ 1 -∗ Φ 2 -∗ Φ 3 -∗ Φ 4 -∗ Φ 5 -∗ Φ 6 -∗ bigSep Finset.univ Φ) := by
  rw [bigSep_fin7]
  iintro H0 H1 H2 H3 H4 H5 H6
  isplitl [H0]; · iexact H0
  isplitl [H1]; · iexact H1
  isplitl [H2]; · iexact H2
  isplitl [H3]; · iexact H3
  isplitl [H4]; · iexact H4
  isplitl [H5]; · iexact H5
  iexact H6

/-- The entries of a slot of the send buffer, -/
theorem send_set (k : Fin 7) : (sendB.access (slotR k)).set = (slotR k).set := View.set_slice_whole cc0_scratch2 (slotR k)
/-- and of the receive buffer. -/
theorem recv_set (k : Fin 7) : (recvB.access (slotR k)).set = (slotR k).set := View.set_slice_whole cc0_scratch3 (slotR k)

omit [FloatOps F] in
/-- A buffer held whole is seven parts of it held, the parts apart and together all of it. -/
theorem parts_split {ℓ : Loc nD τ sig} (I : Fin 7 → Finset (Idx ℓ)) (hd : ∀ k k', k ≠ k' → Disjoint (I k) (I k'))
    (hc : (Finset.univ : Finset (Fin 7)).biUnion I = Finset.univ) (f : Buf (Elt F) ℓ) :
    (ℓ ↦{fullShare} f : sProp 𝕄) ⊢ bigSep Finset.univ fun k => iprop(∃ f : Buf (Elt F) ℓ, ℓ ↦[I k]{fullShare} f) := by
  have h := pointsTo_biUnion (Ix := Unit) (Name := ℕ) (U := UU) (Lvl := ℕ) (ℓ := ℓ) (q := fullShare) (f := f) Finset.univ I (fun k _ k' _ hk => hd k k' hk)
  rw [hc] at h
  refine (Entails.of_eq h).trans (bigSep_mono fun k _ => ?_)
  show (ℓ ↦[I k]{fullShare} f : sProp 𝕄) ⊢ iprop(∃ f : Buf (Elt F) ℓ, ℓ ↦[I k]{fullShare} f)
  iintro H; iexists f; iexact H

omit [FloatOps F] in
/-- Seven such parts, each at some contents, are the buffer at some contents. -/
theorem parts_join {ℓ : Loc nD τ sig} [Nonempty (Buf (Elt F) ℓ)] (I : Fin 7 → Finset (Idx ℓ)) (hd : ∀ k k', k ≠ k' → Disjoint (I k) (I k'))
    (hc : (Finset.univ : Finset (Fin 7)).biUnion I = Finset.univ) :
    (bigSep Finset.univ fun k => iprop(∃ f : Buf (Elt F) ℓ, ℓ ↦[I k]{fullShare} f)) ⊢ (iprop(∃ f : Buf (Elt F) ℓ, ℓ ↦{fullShare} f) : sProp 𝕄) := by
  iintro H
  ihave H := (BI.bigSep_exists_pi Finset.univ (fun (k : Fin 7) (f : Buf (Elt F) ℓ) => (ℓ ↦[I k]{fullShare} f : sProp 𝕄))) $$ H
  icases H with ⟨%fs, H⟩
  have hj := pointsTo_biUnion_join (Ix := Unit) (Name := ℕ) (U := UU) (Lvl := ℕ) (ℓ := ℓ) (q := fullShare) Finset.univ I fs (fs 0) (fun k _ k' _ hk => hd k k' hk)
  rw [hc] at hj
  ihave H := hj $$ H
  icases H with ⟨%g, -, H⟩
  iexists g; iexact H

omit [FloatOps F] in
/-- A send buffer held whole is its seven slots held, -/
theorem send_split (c : Dev nD) (f : Buf (Elt F) ((c : Thread nD τ).loc cc0_scratch2)) :
    (((c : Thread nD τ).loc cc0_scratch2) ↦{fullShare} f : sProp 𝕄) ⊢ bigSep Finset.univ fun k => iprop(∃ f, sendPts (F := F) c k f) := by
  simp only [sendPts, send_set]
  exact parts_split (ℓ := (c : Thread nD τ).loc cc0_scratch2) _ slots_disjoint slots_cover f

omit [FloatOps F] in
/-- and a receive buffer likewise. -/
theorem recv_split (c : Dev nD) (f : Buf (Elt F) ((c : Thread nD τ).loc cc0_scratch3)) :
    (((c : Thread nD τ).loc cc0_scratch3) ↦{fullShare} f : sProp 𝕄) ⊢ bigSep Finset.univ fun k => iprop(∃ f, recvPts (F := F) c k f) := by
  simp only [recvPts, recv_set]
  exact parts_split (ℓ := (c : Thread nD τ).loc cc0_scratch3) _ slots_disjoint slots_cover f

/-- The seven send slots, each at some contents, are the buffer at some contents, -/
theorem send_join (c : Dev nD) :
    (bigSep Finset.univ fun k => iprop(∃ f, sendPts (F := F) c k f)) ⊢ (iprop(∃ f, ((c : Thread nD τ).loc cc0_scratch2) ↦{fullShare} f) : sProp 𝕄) := by
  simp only [sendPts, send_set]
  exact parts_join (ℓ := (c : Thread nD τ).loc cc0_scratch2) _ slots_disjoint slots_cover

/-- and the receive slots likewise. -/
theorem recv_join (c : Dev nD) :
    (bigSep Finset.univ fun k => iprop(∃ f, recvPts (F := F) c k f)) ⊢ (iprop(∃ f, ((c : Thread nD τ).loc cc0_scratch3) ↦{fullShare} f) : sProp 𝕄) := by
  simp only [recvPts, recv_set]
  exact parts_join (ℓ := (c : Thread nD τ).loc cc0_scratch3) _ slots_disjoint slots_cover

/-! ## Before and after the body -/

/-- What stays with device `c`: its place at each of its fifteen semaphores, and the duties it pays. -/
def linear (c : Dev nD) : sProp 𝕄 :=
  iprop((atPos ER (barCell c) 0 ∅ 0
      ∗ (bigSep Finset.univ fun k : Fin 7 => atPos ER (sendCell c k) 0 ∅ 0)
      ∗ (bigSep Finset.univ fun k : Fin 7 => atPos ER (recvCell c k) 0 ∅ 0))
    ∗ (bigSep Finset.univ fun k : Fin 7 => dutyTok ER (barCell (up c k)) 0 (Fin.rev k))
    ∗ (bigSep Finset.univ fun k : Fin 7 => dutyTok ER (sendCell c k) 0 0)
    ∗ (bigSep Finset.univ fun k : Fin 7 => dutyTok ER (recvCell (up c k) k) 0 0))

/-- The credit of device `c`'s waits on its barrier and on its receive semaphores. -/
def credits (c : Dev nD) : sProp 𝕄 :=
  iprop(cred (tallyAt (barCell c) () 7) ∗ bigSep Finset.univ fun k : Fin 7 => cred (tallyAt (recvCell c k) () N))

/-- What device `c` is dealt once every semaphore has its invariant. -/
def G' (c : Dev nD) : sProp 𝕄 := iprop(∃ K, records m K ∗ linear c)

/-- That, with the credit of its waits and the levels. -/
def start (c : Dev nD) : sProp 𝕄 := iprop(G' m c ∗ credits c ∗ levAts L lv)

/-- The four scratch buffers, each at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What device `c` holds before the body, beside the staging buffers. -/
def Φ₀ (c : Dev nD) : sProp 𝕄 := iprop(start m c ∗ scratch c)

/-- Every semaphore closed at zero. -/
def zeros (c : Dev nD) : sProp 𝕄 :=
  iprop(semVal (barCell c) 0 ∗ (bigSep Finset.univ fun k : Fin 7 => semVal (sendCell c k) 0) ∗ bigSep Finset.univ fun k : Fin 7 => semVal (recvCell c k) 0)
/-- What it holds after the body. -/
def Φ₁ (c : Dev nD) : sProp 𝕄 := iprop(scratch c ∗ zeros c)

/-- The contents of the staging buffers, and what a device holds and owes, before and after the one grid point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xsC m c
    | ⟨1, _⟩ => rwC m c
    | ⟨2, _⟩ => idC m c
    | ⟨3, _⟩ => ewC m c
    | ⟨4, _⟩ => outC m c
  Φ t := match t with
    | ⟨0, _⟩ => Φ₀ m c
    | ⟨_ + 1, _⟩ => Φ₁ c
  q _ := fullShare
  owed t := match t with
    | ⟨0, _⟩ => owe c 0 0
    | ⟨_ + 1, _⟩ => 0

/-! ## Closing the semaphores -/

variable (K : Dev nD × CI → ℕ)

/-- A finished semaphore's counter, at zero, is the device's again. -/
theorem close_cell (ck : Dev nD × CI) : iprop(records m K ∗ atPos ER (kcell ck) 1 ∅ 0) ⊢ (|={Set.univ}=> semVal (kcell ck) 0 : sProp 𝕄) := by
  iintro ⟨#HR, H⟩
  imod (Rounds.cell_close ER (Rd m) (Set.mem_univ (K ck)) (fun h => h) (R := 0 + 1) (duties_later m (kcell ck))) $$ [H] with Hz
  · isplitr; · iapply (rec_inv m K ck); iexact HR
    iexact H
  imodintro; iexact Hz

/-- The seven send semaphores close. -/
theorem close_sends (c : Dev nD) : iprop(records m K ∗ bigSep Finset.univ fun k : Fin 7 => atPos ER (sendCell c k) 1 ∅ 0)
    ⊢ (|={Set.univ}=> bigSep Finset.univ fun k : Fin 7 => semVal (sendCell c k) 0 : sProp 𝕄) :=
  (sep_mono_left (BI.bigSep_of_persistent Finset.univ (records m K))).trans
    ((Entails.of_eq (bigSep_sep' _ _ _).symm).trans ((bigSep_mono fun k _ => close_cell m K (c, .inr (.inl k))).trans (bigSep_fupd _ _)))

/-- The seven receive semaphores close. -/
theorem close_recvs (c : Dev nD) : iprop(records m K ∗ bigSep Finset.univ fun k : Fin 7 => atPos ER (recvCell c k) 1 ∅ 0)
    ⊢ (|={Set.univ}=> bigSep Finset.univ fun k : Fin 7 => semVal (recvCell c k) 0 : sProp 𝕄) :=
  (sep_mono_left (BI.bigSep_of_persistent Finset.univ (records m K))).trans
    ((Entails.of_eq (bigSep_sep' _ _ _).symm).trans ((bigSep_mono fun k _ => close_cell m K (c, .inr (.inr k))).trans (bigSep_fupd _ _)))

end Cert.Moe
-- ==== Proof.Body.lean ====
/-
# 01_k, `Body`: one device's body

One rule per part of the program, in program order.
-/
module

public import proofs.«01_k».proof.Proof.Resources
public import proofs.«01_k».proof.Proof.Gen.KernelIdeal.Points

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The device that signal 1 goes to is 1 place on. -/
theorem dev1_eq (c : Dev nD) : (⟨k0_dev1 c, k0_dev1_lt c⟩ : Dev nD) = up c 0 := Fin.ext (k0_dev1_eq c)
/-- The device that signal 2 goes to is 2 places on. -/
theorem dev2_eq (c : Dev nD) : (⟨k0_dev2 c, k0_dev2_lt c⟩ : Dev nD) = up c 1 := Fin.ext (k0_dev2_eq c)
/-- The device that signal 3 goes to is 3 places on. -/
theorem dev3_eq (c : Dev nD) : (⟨k0_dev3 c, k0_dev3_lt c⟩ : Dev nD) = up c 2 := Fin.ext (k0_dev3_eq c)
/-- The device that signal 4 goes to is 4 places on. -/
theorem dev4_eq (c : Dev nD) : (⟨k0_dev4 c, k0_dev4_lt c⟩ : Dev nD) = up c 3 := Fin.ext (k0_dev4_eq c)
/-- The device that signal 5 goes to is 5 places on. -/
theorem dev5_eq (c : Dev nD) : (⟨k0_dev5 c, k0_dev5_lt c⟩ : Dev nD) = up c 4 := Fin.ext (k0_dev5_eq c)
/-- The device that signal 6 goes to is 6 places on. -/
theorem dev6_eq (c : Dev nD) : (⟨k0_dev6 c, k0_dev6_lt c⟩ : Dev nD) = up c 5 := Fin.ext (k0_dev6_eq c)
/-- The device that signal 7 goes to is 7 places on. -/
theorem dev7_eq (c : Dev nD) : (⟨k0_dev7 c, k0_dev7_lt c⟩ : Dev nD) = up c 6 := Fin.ext (k0_dev7_eq c)
/-- The device that copy 1 goes to is 1 place on. -/
theorem dev8_eq (c : Dev nD) : (⟨k0_dev8 c, k0_dev8_lt c⟩ : Dev nD) = up c 0 := Fin.ext (k0_dev8_eq c)
/-- The device that copy 2 goes to is 2 places on. -/
theorem dev9_eq (c : Dev nD) : (⟨k0_dev9 c, k0_dev9_lt c⟩ : Dev nD) = up c 1 := Fin.ext (k0_dev9_eq c)
/-- The device that copy 3 goes to is 3 places on. -/
theorem dev10_eq (c : Dev nD) : (⟨k0_dev10 c, k0_dev10_lt c⟩ : Dev nD) = up c 2 := Fin.ext (k0_dev10_eq c)
/-- The device that copy 4 goes to is 4 places on. -/
theorem dev11_eq (c : Dev nD) : (⟨k0_dev11 c, k0_dev11_lt c⟩ : Dev nD) = up c 3 := Fin.ext (k0_dev11_eq c)
/-- The device that copy 5 goes to is 5 places on. -/
theorem dev12_eq (c : Dev nD) : (⟨k0_dev12 c, k0_dev12_lt c⟩ : Dev nD) = up c 4 := Fin.ext (k0_dev12_eq c)
/-- The device that copy 6 goes to is 6 places on. -/
theorem dev13_eq (c : Dev nD) : (⟨k0_dev13 c, k0_dev13_lt c⟩ : Dev nD) = up c 5 := Fin.ext (k0_dev13_eq c)
/-- The device that copy 7 goes to is 7 places on. -/
theorem dev14_eq (c : Dev nD) : (⟨k0_dev14 c, k0_dev14_lt c⟩ : Dev nD) = up c 6 := Fin.ext (k0_dev14_eq c)

/-- The one grid point. -/
abbrev t₀ : Fin cfg0.N := t0_0

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Holding a staging buffer at contents `X`, said the two ways. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The token buffer with the four column blocks written into it holds what the copies read. -/
theorem xg_done (c : Dev nD) (f : (cc0_scratch0 : Ref sig .tc).ty.Contents (Elt F)) :
    (((c : Thread nD τ).loc cc0_scratch0) ↦{fullShare} (xgOver m c f) : sProp 𝕄) ⊢ xgPts m c :=
  Entails.of_eq (by rw [xgOver_eq]; rfl)

/-- What device `c` holds before the body: the protocol's share, the scratch buffers, the five staging buffers. -/
def bodyPre (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- What device `c` holds after the body: the scratch buffers, closed semaphores, its arguments as they were and its result. -/
def bodyPost (c : Dev nD) : sProp 𝕄 :=
  iprop(Φ₁ c ∗ (dats m ρ 0 c).owesAt () t₀.succ ∗ stg c cc0_stg0_0 (xsC m c) ∗ stg c cc0_stg1_0 (rwC m c) ∗ stg c cc0_stg2_0 (idC m c)
    ∗ stg c cc0_stg3_0 (ewC m c) ∗ stg c cc0_stg4_0 (outC m c))

set_option maxRecDepth 8000 in
set_option maxHeartbeats 4000000 in
/-- The body from what a device starts with to its result and every semaphore closed. -/
theorem sound_body (c : Dev nD) (Kt : PUnit → sProp (MT nD τ sig Unit (Elt F) ℕ UU ℕ)) :
    iprop(bodyPre m ρ c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre Φ₀ start G' linear credits scratch
  iintro ⟨⟨⟨⟨⟨%K, #HR, ⟨HaB, HaS, HaR⟩, HtB, HtS, HtR⟩, ⟨HcB, HcR⟩, Hlev⟩, ⟨%fxg, Hxg⟩, ⟨%few, Hew⟩, ⟨%fs, Hs⟩, ⟨%fr, Hr⟩⟩,
    Ho, ⟨%d0, %g0, %hg0, Hx⟩, ⟨%d1, %g1, %hg1, Hrw⟩, ⟨%d2, %g2, %hg2, Hid⟩, ⟨%d3, %g3, %hg3, Hexp⟩, ⟨%d4, %g4, %hg4, Hout⟩⟩, Hk⟩
  have hx : g0 = xsC m c := by rw [hg0]; unfold Dat.before; rw [if_pos (fetch0_0 t₀)]; rfl
  have hrw : g1 = rwC m c := by rw [hg1]; unfold Dat.before; rw [if_pos (fetch0_1 t₀)]; rfl
  have hid : g2 = idC m c := by rw [hg2]; unfold Dat.before; rw [if_pos (fetch0_2 t₀)]; rfl
  have hexp : g3 = ewC m c := by rw [hg3]; unfold Dat.before; rw [if_pos (fetch0_3 t₀)]; rfl
  subst hx hrw hid hexp
  unfold Dat.owesAt Pipeline.owesWithin
  icases Ho with ⟨%W, %hW, HO⟩
  rw [show (dats m ρ 0 c).owed t₀.castSucc = owe c 0 0 from rfl]
  ihave HO := (show (owes (c : Thread nD τ) (owe c 0 0) W : sProp 𝕄) ⊢ ow c (owe c 0 0) from by unfold ow; iintro H; iexists W; iexact H) $$ HO
  ihave Hs := (send_split c fs) $$ Hs
  ihave Hr := (recv_split c fr) $$ Hr
  simp only [bigSep_fin7]
  icases HaS with ⟨HaS0, HaS1, HaS2, HaS3, HaS4, HaS5, HaS6⟩
  icases HaR with ⟨HaR0, HaR1, HaR2, HaR3, HaR4, HaR5, HaR6⟩
  icases HtB with ⟨HtB0, HtB1, HtB2, HtB3, HtB4, HtB5, HtB6⟩
  icases HtS with ⟨HtS0, HtS1, HtS2, HtS3, HtS4, HtS5, HtS6⟩
  icases HtR with ⟨HtR0, HtR1, HtR2, HtR3, HtR4, HtR5, HtR6⟩
  icases HcR with ⟨HcR0, HcR1, HcR2, HcR3, HcR4, HcR5, HcR6⟩
  icases Hs with ⟨HvS0, HvS1, HvS2, HvS3, HvS4, HvS5, HvS6⟩
  icases Hr with ⟨HvR0, HvR1, HvR2, HvR3, HvR4, HvR5, HvR6⟩
  iapply (step_signal m K _ c _ 0 6 (dev1_eq c) rfl 0 1 rfl rfl (by decide)) $$ HR HO HtB0 HvR6; iintro HO
  iapply (step_signal m K _ c _ 1 5 (dev2_eq c) rfl 1 2 rfl rfl (by decide)) $$ HR HO HtB1 HvR5; iintro HO
  iapply (step_signal m K _ c _ 2 4 (dev3_eq c) rfl 2 3 rfl rfl (by decide)) $$ HR HO HtB2 HvR4; iintro HO
  iapply (step_signal m K _ c _ 3 3 (dev4_eq c) rfl 3 4 rfl rfl (by decide)) $$ HR HO HtB3 HvR3; iintro HO
  iapply (step_signal m K _ c _ 4 2 (dev5_eq c) rfl 4 5 rfl rfl (by decide)) $$ HR HO HtB4 HvR2; iintro HO
  iapply (step_signal m K _ c _ 5 1 (dev6_eq c) rfl 5 6 rfl rfl (by decide)) $$ HR HO HtB5 HvR1; iintro HO
  iapply (step_signal m K _ c _ 6 0 (dev7_eq c) rfl 6 7 rfl rfl (by decide)) $$ HR HO HtB6 HvR0; iintro HO
  iapply (step_barrier m K _ c (by decide)) $$ HR Hlev HO HcB HaB; iintro HO HaB Hb
  ihave Hb := (Entails.of_eq (bigSep_fin7 (F := F) _)) $$ Hb
  icases Hb with ⟨Hb0, Hb1, Hb2, Hb3, Hb4, Hb5, Hb6⟩
  iapply (wp_load 𝒱₀ (c : Thread nD τ) none Set.univ (m := (Memref.whole cc0_stg0_0 : Memref sig .tc .vmem S1024x512 .bf16)) (Finset.subset_univ _)) $$ Hx; iintro Hx
  rw [read_x]
  iapply (wp_load 𝒱₀ (c : Thread nD τ) none Set.univ (m := (Memref.whole cc0_stg1_0 : Memref sig .tc .vmem S512x32 .bf16)) (Finset.subset_univ _)) $$ Hrw; iintro Hrw
  rw [read_rw]
  iapply (wp_load 𝒱₀ (c : Thread nD τ) none Set.univ (m := idB) (Finset.subset_univ _)) $$ Hid; iintro Hid
  iapply (wp_load 𝒱₀ (c : Thread nD τ) none Set.univ (m := idB) (Finset.subset_univ _)) $$ Hid; iintro Hid
  iapply (wp_load 𝒱₀ (c : Thread nD τ) none Set.univ (m := (Memref.whole cc0_stg3_0 : Memref sig .tc .vmem S4x512x1024 .bf16)) (Finset.subset_univ _)) $$ Hexp; iintro Hexp
  rw [read_exp]
  iapply (wp_load 𝒱₀ (c : Thread nD τ) none Set.univ (m := ewB) (Finset.subset_univ _)) $$ Hew; iintro Hew
  iapply (wp_store 𝒱₀ (c : Thread nD τ) none Set.univ (m := ewB) (r := ewR) (Mk := Finset.univ) (Finset.subset_univ _)) $$ Hew; iintro Hew
  rw [write_ew]
  ihave Hew := (show ((((c : Thread nD τ).loc cc0_scratch1) ↦{fullShare} (k0_pay9 (ewC m c) : Vec F S2048x1024 .bf16)) : sProp 𝕄) ⊢ ewPts m c from Entails.refl _) $$ Hew
  iapply (wp_load 𝒱₀ (c : Thread nD τ) none Set.univ (m := xgB) (Finset.subset_univ _)) $$ Hxg; iintro Hxg
  iapply (wp_store 𝒱₀ (c : Thread nD τ) none Set.univ (m := xgB) (r := colR0) (Mk := Finset.univ) (Finset.subset_univ _)) $$ Hxg; iintro Hxg
  iapply (wp_load 𝒱₀ (c : Thread nD τ) none Set.univ (m := xgB) (Finset.subset_univ _)) $$ Hxg; iintro Hxg
  iapply (wp_store 𝒱₀ (c : Thread nD τ) none Set.univ (m := xgB) (r := colR1) (Mk := Finset.univ) (Finset.subset_univ _)) $$ Hxg; iintro Hxg
  iapply (wp_load 𝒱₀ (c : Thread nD τ) none Set.univ (m := xgB) (Finset.subset_univ _)) $$ Hxg; iintro Hxg
  iapply (wp_store 𝒱₀ (c : Thread nD τ) none Set.univ (m := xgB) (r := colR2) (Mk := Finset.univ) (Finset.subset_univ _)) $$ Hxg; iintro Hxg
  iapply (wp_load 𝒱₀ (c : Thread nD τ) none Set.univ (m := xgB) (Finset.subset_univ _)) $$ Hxg; iintro Hxg
  iapply (wp_store 𝒱₀ (c : Thread nD τ) none Set.univ (m := xgB) (r := colR3) (Mk := Finset.univ) (Finset.subset_univ _)) $$ Hxg; iintro Hxg
  have hX := xg_done m c fxg
  unfold xgOver col0 col1 col2 col3 idC0 idC1 at hX
  ihave Hxg := hX $$ Hxg
  iapply (step_block m K _ c _ 0 (dev8_eq c) 0 1 rfl rfl _ (fun _ _ => rfl) rfl rfl rfl rfl) $$ HR Hxg Hew HvS0 Hb0 HO HtS0 HtR0; iintro Hxg Hew HcS0 HO
  iapply (step_block m K _ c _ 1 (dev9_eq c) 1 2 rfl rfl _ (fun _ _ => rfl) rfl rfl rfl rfl) $$ HR Hxg Hew HvS1 Hb1 HO HtS1 HtR1; iintro Hxg Hew HcS1 HO
  iapply (step_block m K _ c _ 2 (dev10_eq c) 2 3 rfl rfl _ (fun _ _ => rfl) rfl rfl rfl rfl) $$ HR Hxg Hew HvS2 Hb2 HO HtS2 HtR2; iintro Hxg Hew HcS2 HO
  iapply (step_block m K _ c _ 3 (dev11_eq c) 3 4 rfl rfl _ (fun _ _ => rfl) rfl rfl rfl rfl) $$ HR Hxg Hew HvS3 Hb3 HO HtS3 HtR3; iintro Hxg Hew HcS3 HO
  iapply (step_block m K _ c _ 4 (dev12_eq c) 4 5 rfl rfl _ (fun _ _ => rfl) rfl rfl rfl rfl) $$ HR Hxg Hew HvS4 Hb4 HO HtS4 HtR4; iintro Hxg Hew HcS4 HO
  iapply (step_block m K _ c _ 5 (dev13_eq c) 5 6 rfl rfl _ (fun _ _ => rfl) rfl rfl rfl rfl) $$ HR Hxg Hew HvS5 Hb5 HO HtS5 HtR5; iintro Hxg Hew HcS5 HO
  iapply (step_block m K _ c _ 6 (dev14_eq c) 6 7 rfl rfl _ (fun _ _ => rfl) rfl rfl rfl rfl) $$ HR Hxg Hew HvS6 Hb6 HO HtS6 HtR6; iintro Hxg Hew HcS6 HO
  unfold xgPts ewPts
  iapply (wp_load 𝒱₀ (c : Thread nD τ) none Set.univ (m := xgB) (Finset.subset_univ _)) $$ Hxg; iintro Hxg
  iapply (wp_load 𝒱₀ (c : Thread nD τ) none Set.univ (m := ewB) (Finset.subset_univ _)) $$ Hew; iintro Hew
  rw [read_ew]
  iapply (wp_load 𝒱₀ (c : Thread nD τ) none Set.univ (m := outB) (Finset.subset_univ _)) $$ Hout; iintro Hout
  iapply (wp_store 𝒱₀ (c : Thread nD τ) none Set.univ (m := outB) (r := outR) (Mk := Finset.univ) (Finset.subset_univ _)) $$ Hout; iintro Hout
  rw [write_out]
  ihave Hout := (show ((((c : Thread nD τ).loc cc0_stg4_0) ↦{fullShare} (k0_pay23 (xgB.view.readAt (Elt F) (ownR c).toLoadRect (XG m c)) (EW m c) : Vec F S128x1024 .f32)) : sProp 𝕄) ⊢ outPts c (own m c) from Entails.refl _) $$ Hout
  ihave HO := (show (ow c (owe c 7 7) : sProp 𝕄) ⊢ ow c 0 from Entails.of_eq (congrArg (ow (F := F) c) (owe_done c))) $$ HO
  iapply (step_acc m K _ c 0 rfl (src := slotOf sendB 0) (dst := slotOf recvB 0) rfl _ (fun _ _ => rfl) _) $$ HR HcR0 HO HaR0 Hout; iintro HO HaR0 HvR0 Hout
  iapply (step_acc m K _ c 1 rfl (src := slotOf sendB 1) (dst := slotOf recvB 1) rfl _ (fun _ _ => rfl) _) $$ HR HcR1 HO HaR1 Hout; iintro HO HaR1 HvR1 Hout
  iapply (step_acc m K _ c 2 rfl (src := slotOf sendB 2) (dst := slotOf recvB 2) rfl _ (fun _ _ => rfl) _) $$ HR HcR2 HO HaR2 Hout; iintro HO HaR2 HvR2 Hout
  iapply (step_acc m K _ c 3 rfl (src := slotOf sendB 3) (dst := slotOf recvB 3) rfl _ (fun _ _ => rfl) _) $$ HR HcR3 HO HaR3 Hout; iintro HO HaR3 HvR3 Hout
  iapply (step_acc m K _ c 4 rfl (src := slotOf sendB 4) (dst := slotOf recvB 4) rfl _ (fun _ _ => rfl) _) $$ HR HcR4 HO HaR4 Hout; iintro HO HaR4 HvR4 Hout
  iapply (step_acc m K _ c 5 rfl (src := slotOf sendB 5) (dst := slotOf recvB 5) rfl _ (fun _ _ => rfl) _) $$ HR HcR5 HO HaR5 Hout; iintro HO HaR5 HvR5 Hout
  iapply (step_acc m K _ c 6 rfl (src := slotOf sendB 6) (dst := slotOf recvB 6) rfl _ (fun _ _ => rfl) _) $$ HR HcR6 HO HaR6 Hout; iintro HO HaR6 HvR6 Hout
  iapply (step_waitSend m K _ c 0 (src := slotOf recvB 0) (dst := slotOf sendB 0) rfl) $$ HR HcS0 HO HaS0; iintro HO HaS0 HvS0
  iapply (step_waitSend m K _ c 1 (src := slotOf recvB 1) (dst := slotOf sendB 1) rfl) $$ HR HcS1 HO HaS1; iintro HO HaS1 HvS1
  iapply (step_waitSend m K _ c 2 (src := slotOf recvB 2) (dst := slotOf sendB 2) rfl) $$ HR HcS2 HO HaS2; iintro HO HaS2 HvS2
  iapply (step_waitSend m K _ c 3 (src := slotOf recvB 3) (dst := slotOf sendB 3) rfl) $$ HR HcS3 HO HaS3; iintro HO HaS3 HvS3
  iapply (step_waitSend m K _ c 4 (src := slotOf recvB 4) (dst := slotOf sendB 4) rfl) $$ HR HcS4 HO HaS4; iintro HO HaS4 HvS4
  iapply (step_waitSend m K _ c 5 (src := slotOf recvB 5) (dst := slotOf sendB 5) rfl) $$ HR HcS5 HO HaS5; iintro HO HaS5 HvS5
  iapply (step_waitSend m K _ c 6 (src := slotOf recvB 6) (dst := slotOf sendB 6) rfl) $$ HR HcS6 HO HaS6; iintro HO HaS6 HvS6
  ihave HaS := (seven (F := F) (fun k => atPos ER (sendCell c k) 1 ∅ 0)) $$ HaS0 HaS1 HaS2 HaS3 HaS4 HaS5 HaS6
  ihave HaR := (seven (F := F) (fun k => atPos ER (recvCell c k) 1 ∅ 0)) $$ HaR0 HaR1 HaR2 HaR3 HaR4 HaR5 HaR6
  unfold sendPay
  ihave HvS := (seven (F := F) (fun k => iprop(∃ f, sendPts c k f))) $$ HvS0 HvS1 HvS2 HvS3 HvS4 HvS5 HvS6
  ihave HvR := (seven (F := F) (fun k => iprop(∃ f, recvPts c k f))) $$ HvR0 HvR1 HvR2 HvR3 HvR4 HvR5 HvR6
  ihave HvS := (send_join (F := F) c) $$ HvS
  ihave HvR := (recv_join (F := F) c) $$ HvR
  imod (close_cell m K (c, .inl ())) $$ [HaB] with HzB
  · isplitr; · iexact HR
    iexact HaB
  imod (close_sends m K c) $$ [HaS] with HzS
  · isplitr; · iexact HR
    iexact HaS
  imod (close_recvs m K c) $$ [HaR] with HzR
  · isplitr; · iexact HR
    iexact HaR
  rw [wp_ret]; imodintro
  iapply Hk
  unfold bodyPost Φ₁ scratch zeros Dat.owesAt Pipeline.owesWithin
  rw [show (dats m ρ 0 c).owed t₀.succ = 0 from rfl]
  isplitl [Hxg Hew HvS HvR HzB HzS HzR]
  · isplitl [Hxg Hew HvS HvR]
    · isplitl [Hxg]; · iexists _; iexact Hxg
      isplitl [Hew]; · iexists _; iexact Hew
      isplitl [HvS]; · iexact HvS
      iexact HvR
    isplitl [HzB]; · iexact HzB
    isplitl [HzS] <;> iassumption
  unfold ow
  icases HO with ⟨%W', HO⟩
  isplitl [HO]
  · iexists W'
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hid]
  · iexists _; isplitr; · (ipureintro; rfl)
    iexact Hid
  isplitl [Hexp]
  · iexists _; isplitr; · (ipureintro; rfl)
    iexact Hexp
  iexists _; isplitr; · (ipureintro; rfl)
  unfold outPts; iexact Hout

end Cert.Moe
-- ==== Proof.Ghost.lean ====
/-
# 01_k, `Ghost`: what the launch deals out

The records of the fifteen semaphores of every device, the duties handed to the devices that pay them, and the credit
each device starts with for what the others owe it.
-/
module

public import proofs.«01_k».proof.Proof.Resources

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores are scoped, distinct and none of the staging copies'. -/
theorem ownSemFacts : Pipeline.OwnSemFacts cfg0.spec osem := by decide

/-- The fifteen semaphores of a device are distinct. -/
theorem csem_inj : Function.Injective csem := by
  intro a b h
  revert a b; decide

/-- Different semaphores of the kernel, or of different devices, are different cells. -/
theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- Every cell of the protocol. -/
def moeCells : Finset (GSem nD τ sig) := Finset.univ.map ⟨kcell, kcell_inj⟩

/-- A semaphore and one duty at it: the barrier has seven, the others one each. -/
abbrev TI : Type := Fin 7 ⊕ (Fin 7 ⊕ Fin 7)
/-- Which semaphore and which duty a name in `TI` stands for. -/
def tokAt : TI → SemLoc sig × Fin 7
  | .inl k => (.reg barS, k)
  | .inr (.inl k) => (.dma (sendQ k), 0)
  | .inr (.inr k) => (.dma (recvQ k), 0)
/-- Different names stand for different duties. -/
theorem tokAt_inj : Function.Injective tokAt := by
  intro a b h
  revert a b; decide
/-- The same on a given device. -/
abbrev tokOf (ct : Dev nD × TI) : GSem nD τ sig × ℕ × Fin 7 := (((ct.1 : Thread nD τ), (tokAt ct.2).1), 0, (tokAt ct.2).2)
/-- Different devices or names stand for different duties. -/
theorem tokOf_inj : Function.Injective (tokOf : Dev nD × TI → GSem nD τ sig × ℕ × Fin 7) := by
  rintro ⟨c, k⟩ ⟨c', k'⟩ h
  have h1 : c = c' := congrArg (fun x : GSem nD τ sig × ℕ × Fin 7 => x.1.1.1) h
  have h2 : k = k' := tokAt_inj (Prod.ext (congrArg (fun x : GSem nD τ sig × ℕ × Fin 7 => x.1.2) h) (congrArg (fun x : GSem nD τ sig × ℕ × Fin 7 => x.2.2) h))
  rw [h1, h2]
/-- Every duty of the protocol. -/
def moeToks : Finset (GSem nD τ sig × ℕ × Fin 7) := Finset.univ.map ⟨tokOf, tokOf_inj⟩

/-- The ghost state of the launch: the staging copies' and the protocol's. -/
def u₀ : UU :=
  (initOf (Pipeline.cells cfgs cellOf_inj) (Pipeline.launchToks cfgs cellOf_inj), initOf moeCells moeToks)

/-- The duties at device `c`'s own semaphores. -/
def toks (c : Dev nD) : sProp 𝕄 :=
  iprop((bigSep Finset.univ fun k : Fin 7 => dutyTok ER (barCell c) 0 k)
    ∗ (bigSep Finset.univ fun k : Fin 7 => dutyTok ER (sendCell c k) 0 0)
    ∗ (bigSep Finset.univ fun k : Fin 7 => dutyTok ER (recvCell c k) 0 0))

/-- What device `c` is dealt before anything is shared. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

omit [FloatOps F] in
/-- A family over every cell is a family over the devices and their semaphores. -/
theorem over_cells (Φ : GSem nD τ sig → sProp 𝕄) :
    bigSep moeCells Φ = bigSep Finset.univ fun c : Dev nD => bigSep Finset.univ fun k : CI => Φ (kcell (c, k)) := by
  unfold moeCells; rw [bigSep_map, bigSep_univ_prod]; rfl

omit [FloatOps F] in
/-- Every duty is every device's duties. -/
theorem over_toks : bigSep moeToks (fun x => (dutyTok ER x.1 x.2.1 x.2.2 : sProp 𝕄)) = bigSep Finset.univ fun c : Dev nD => toks c := by
  unfold moeToks; rw [bigSep_map, bigSep_univ_prod]
  exact bigSep_congr fun c _ => by unfold toks; rw [BI.bigSep_univ_sum, BI.bigSep_univ_sum]; rfl

/-- The launch's ghost state is every device's deal. -/
theorem fund : BI.own (ER (initOf moeCells moeToks)) ⊢ (|==> bigSep Finset.univ (G m) : sProp 𝕄) := by
  iintro HX
  imod (Rounds.fund ER (Rd m) moeCells moeToks) $$ HX with ⟨Hst, Hr, Hat, Htok⟩
  imodintro
  ihave Hst' := (Entails.of_eq (over_cells fun g => roundState ER (Rd m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat' Hr']
  · isplitl [Hat'] <;> iassumption
  iexact Htok'

/-! ## The semaphores at zero -/

omit [FloatOps F] in
/-- The kernel's own semaphores at zero: seven to send on, seven to receive on. -/
theorem ownSems0_split (c : Dev nD) : (Pipeline.ownSems0 (Ix := Unit) (Name := ℕ) (U := UU) (Lvl := ℕ) (Val := Elt F) (τ := τ) osem c : sProp 𝕄)
    = iprop((bigSep Finset.univ fun k : Fin 7 => semVal (sendCell c k) 0) ∗ bigSep Finset.univ fun k : Fin 7 => semVal (recvCell c k) 0) := by
  unfold Pipeline.ownSems0; rw [BI.bigSep_univ_sum]; rfl

omit [FloatOps F] in
/-- The one other semaphore is the barrier. -/
theorem unscopedSems0_bar (c : Dev nD) : (unscopedSems0 c : sProp 𝕄) = semVal (barCell c) 0 := by
  unfold unscopedSems0; rw [bigSep_eq_bigSepL_of_eq [SemLoc.reg barS] (by decide) (by decide)]; rfl

omit [FloatOps F] in
/-- A family over a device's fifteen semaphores is the barrier's, the send's and the receive's. -/
theorem over_ci (Φ : CI → sProp 𝕄) : bigSep Finset.univ Φ
    = iprop(Φ (.inl ()) ∗ (bigSep Finset.univ fun k : Fin 7 => Φ (.inr (.inl k))) ∗ bigSep Finset.univ fun k : Fin 7 => Φ (.inr (.inr k))) := by
  rw [BI.bigSep_univ_sum, BI.bigSep_univ_sum, BI.bigSep_univ_of_subsingleton ()]; rfl

omit [FloatOps F] in
/-- So a device's semaphores at zero are all fifteen of the protocol. -/
theorem sems0_all (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_split, unscopedSems0_bar]
  have e : (bigSep Finset.univ fun k : CI => (semVal (kcell (c, k)) 0 : sProp 𝕄))
      = iprop(semVal (barCell c) 0 ∗ (bigSep Finset.univ fun k : Fin 7 => semVal (sendCell c k) 0) ∗ bigSep Finset.univ fun k : Fin 7 => semVal (recvCell c k) 0) :=
    over_ci fun k : CI => (semVal (kcell (c, k)) 0 : sProp 𝕄)
  rw [e]
  iintro ⟨⟨HS, HV⟩, HB⟩
  isplitl [HB]; · iexact HB
  isplitl [HS] <;> iassumption

/-- A device's counters at zero and its round states become invariants. -/
theorem open_cells (c : Dev nD) :
    iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) := by
  rw [← bigSep_sep']
  exact (bigSep_mono fun k _ => (Rounds.body_intro ER (Rd m) (kcell (c, k))).trans inv_alloc).trans (bigSep_fupd _ _)

/-- One device: its semaphores at zero and its deal become invariants, its places and its duties. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_all (F := F) c) $$ [Hos Hus]
  · isplitl [Hos] <;> iassumption
  imod (open_cells m c) $$ [Hv Hst] with Hinv
  · isplitl [Hv] <;> iassumption
  imodintro
  isplitl [Hinv]; · iexact Hinv
  isplitl [Hat]; · iexact Hat
  iexact Htok

/-! ## The duties go to the devices that pay them -/

/-- Duty `k` at a barrier is paid by the device `k + 1` places after its owner, as that device's signal `6 - k`. -/
def barE : Dev nD × Fin 7 ≃ Dev nD × Fin 7 where
  toFun p := (up p.1 p.2, Fin.rev p.2)
  invFun p := (up p.1 p.2, Fin.rev p.2)
  left_inv p := Prod.ext (dn_up p.1 p.2) (Fin.rev_rev p.2)
  right_inv p := Prod.ext (dn_up p.1 p.2) (Fin.rev_rev p.2)
/-- The duty at receive semaphore `k` is paid by the device `k + 1` places before its owner. -/
def recvE : Dev nD × Fin 7 ≃ Dev nD × Fin 7 where
  toFun p := (up p.1 p.2, p.2)
  invFun p := (dn p.1 p.2, p.2)
  left_inv p := Prod.ext (dn_up p.1 p.2) rfl
  right_inv p := Prod.ext (up_dn p.1 p.2) rfl

omit [FloatOps F] in
/-- A double family re-dealt along a permutation of its index pairs. -/
theorem redeal (e : Dev nD × Fin 7 ≃ Dev nD × Fin 7) (Φ : Dev nD × Fin 7 → sProp (MT nD τ sig Unit (Elt F) ℕ UU ℕ)) :
    (bigSep Finset.univ fun c : Dev nD => bigSep Finset.univ fun k : Fin 7 => Φ (c, k))
      = bigSep Finset.univ fun c : Dev nD => bigSep Finset.univ fun k : Fin 7 => Φ (e (c, k)) := by
  rw [← bigSep_univ_prod Φ, bigSep_univ_equiv e Φ, bigSep_univ_prod (fun p => Φ (e p))]

/-- The duties device `c` pays. -/
def payToks (c : Dev nD) : sProp 𝕄 :=
  iprop((bigSep Finset.univ fun k : Fin 7 => dutyTok ER (barCell (up c k)) 0 (Fin.rev k))
    ∗ (bigSep Finset.univ fun k : Fin 7 => dutyTok ER (sendCell c k) 0 0)
    ∗ (bigSep Finset.univ fun k : Fin 7 => dutyTok ER (recvCell (up c k) k) 0 0))

omit [FloatOps F] in
/-- The duties held by whom they concern, re-dealt to who pays them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    redeal barE (fun p => (dutyTok ER (barCell p.1) 0 p.2 : sProp 𝕄)),
    redeal recvE (fun p => (dutyTok ER (recvCell p.1 p.2) 0 0 : sProp 𝕄))]
  exact Entails.rfl

omit [FloatOps F] in
/-- A fact that may be used again and again goes to every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Names for all invariants, with what stays with device `c`, are what it starts with. -/
theorem deal_intro (K : Dev nD × CI → ℕ) (c : Dev nD) : iprop(records m K ∗ linear c) ⊢ G' m c := by
  unfold G'; iintro H; iexists K; iexact H

omit [FloatOps F] in
/-- A device's places and the duties it pays are what stays with it. -/
theorem linear_intro (c : Dev nD) :
    iprop((bigSep Finset.univ fun k : CI => (atPos ER (kcell (c, k)) 0 ∅ 0 : sProp 𝕄)) ∗ payToks c) ⊢ linear c := by
  rw [over_ci]; exact Entails.rfl

/-- All devices' invariants, places and duties, sorted into what each device starts with. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (with_persistent (R := records m K) fun c _ => deal_intro m K c)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => linear_intro c))
    isplitl [Hat]; · iexact Hat
    iexact Htk

/-- All devices' semaphores at once: invariants for all, duties re-dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What device `d` owes at the start, cell by cell. -/
abbrev O₀ (d : Dev nD) : CellTallies nD τ sig Unit := owe d 0 0

/-- A sum from 0 on leaves no slot out. -/
theorem sum_all (f : Fin 7 → CellTallies nD τ sig Unit) (g : GSem nD τ sig) :
    (∑ k : Fin 7, if 0 ≤ k.val then f k else 0) g () = ∑ k : Fin 7, f k g () := by
  rw [Finset.sum_apply, Finsupp.finsetSum_apply]
  exact Finset.sum_congr rfl fun k _ => by rw [if_pos (Nat.zero_le _)]

/-- What device `d` owes one cell at the start. -/
theorem O₀_at (d : Dev nD) (g : GSem nD τ sig) :
    O₀ d g () = (∑ k : Fin 7, if g = recvCell (up d k) k then N else 0) + ∑ k : Fin 7, if g = barCell (up d k) then 1 else 0 := by
  show owe d 0 0 g () = _
  unfold owe
  rw [Pi.add_apply, Finsupp.add_apply, sum_all, sum_all]
  congr 1 <;> exact Finset.sum_congr rfl fun k _ => by rw [tallyAt_apply]; simp only [and_true]

/-- Barriers are the same when their devices are. -/
theorem bar_eq_iff {a b : Dev nD} : barCell a = barCell b ↔ a = b :=
  ⟨fun h => congrArg (fun g : GSem nD τ sig => g.1.1) h, fun h => h ▸ rfl⟩
/-- Different slots are received on different semaphores. -/
theorem recvQ_inj {j k : Fin 7} (h : recvQ j = recvQ k) : j = k := by revert j k; decide
/-- Receive semaphores are the same when their devices and slots are. -/
theorem recv_eq_iff {a b : Dev nD} {j k : Fin 7} : recvCell a j = recvCell b k ↔ a = b ∧ j = k :=
  ⟨fun h => ⟨congrArg (fun g : GSem nD τ sig => g.1.1) h, recvQ_inj (SemLoc.dma.inj (congrArg Prod.snd h))⟩, fun ⟨h, h'⟩ => by rw [h, h']⟩
/-- A barrier is no receive semaphore. -/
theorem bar_ne_recv {a b : Dev nD} {k : Fin 7} : barCell a ≠ recvCell b k := fun h => by
  have h' := congrArg Prod.snd h
  simp at h'

/-- `c` is `k + 1` places after `d` when `d` is `k + 1` places before `c`. -/
theorem up_eq_iff {c d : Dev nD} {k : Fin 7} : c = up d k ↔ d = dn c k :=
  ⟨fun h => by rw [h, dn_up], fun h => by rw [h, up_dn]⟩

/-- All devices together owe a barrier seven units. -/
theorem owed_bar (c : Dev nD) : ∑ d : Dev nD, O₀ d (barCell c) () = 7 := by
  have h : ∀ d, O₀ d (barCell c) () = ∑ k : Fin 7, if d = dn c k then 1 else 0 := by
    intro d
    rw [O₀_at, Finset.sum_eq_zero fun k _ => if_neg bar_ne_recv, Nat.zero_add]
    exact Finset.sum_congr rfl fun k _ => if_congr (bar_eq_iff.trans up_eq_iff) rfl rfl
  rw [Finset.sum_congr rfl fun d _ => h d, Finset.sum_comm]
  simp

/-- All devices together owe a receive semaphore one copy. -/
theorem owed_recv (c : Dev nD) (k : Fin 7) : ∑ d : Dev nD, O₀ d (recvCell c k) () = N := by
  have h : ∀ d, O₀ d (recvCell c k) () = if d = dn c k then N else 0 := by
    intro d
    rw [O₀_at]
    rw [Finset.sum_eq_zero (f := fun j : Fin 7 => if recvCell c k = barCell (up d j) then 1 else 0) fun j _ => if_neg fun h => bar_ne_recv h.symm, Nat.add_zero,
      Finset.sum_eq_single k (fun j _ hj => if_neg fun h => hj (recv_eq_iff.mp h).2.symm) (fun h => absurd (Finset.mem_univ _) h)]
    exact if_congr ((recv_eq_iff.trans ⟨fun h => h.1, fun h => ⟨h, rfl⟩⟩).trans up_eq_iff) rfl rfl
  rw [Finset.sum_congr rfl fun d _ => h d, Finset.sum_ite_eq' Finset.univ (dn c k) fun _ => N, if_pos (Finset.mem_univ _)]

/-- The credit of the launch at a barrier is seven units, -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owed_bar]

/-- and at a receive semaphore one copy. -/
theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, owed_recv]

/-- The receive semaphores as a set. -/
def recvSet : Finset (SemLoc sig) := Finset.univ.map ⟨fun k : Fin 7 => .dma (recvQ k), fun j k h => recvQ_inj (SemLoc.dma.inj h)⟩

/-- None of the receive semaphores is the barrier. -/
theorem recvSet_sub : recvSet ⊆ Finset.univ.erase (SemLoc.reg barS : SemLoc sig) := by
  intro s hs
  unfold recvSet at hs
  rw [Finset.mem_map] at hs
  obtain ⟨k, -, rfl⟩ := hs
  exact Finset.mem_erase.mpr ⟨fun h => by simp at h, Finset.mem_univ _⟩

omit [FloatOps F] in
/-- The launch's credit to a device has what its waits need. -/
theorem creds (c : Dev nD) : (Pipeline.launchCred O₀ c : sProp 𝕄) ⊢ credits c := by
  unfold Pipeline.launchCred credits
  rw [bigSep_univ_at _ (SemLoc.reg barS), launch_bar]
  refine sep_mono_right ((BI.bigSep_subset recvSet_sub).trans ?_)
  unfold recvSet
  rw [bigSep_map]
  exact bigSep_mono fun k _ => Entails.of_eq (congrArg cred (launch_recv c k))

end Cert.Moe

end
-- ==== Proof.Launch.lean ====
/-
# 01_k, `Launch`: the eight devices from launch to end

The library's launch theorem applied to the body's rule: whatever the order in which the devices run, they all end,
every device's result array holds `outC`, its four inputs are as they were, and every counter is zero.
-/
module

public import proofs.«01_k».proof.Proof.Body
public import proofs.«01_k».proof.Proof.Ghost
public import Idealize.ShloMosaic.Lib.Pipeline.CollectiveSegs
public import Idealize.ShloMosaic.Lib.Pipeline.ValueKit
public import Idealize.ShloMosaic.Lib.Quiescent

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
/-- The pipeline's one body run, as the library asks for it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5) (fun _ => bodyPost m ρ c)
  iintro H
  iapply (sound_body m ρ c fun _ => bodyPost m ρ c)
  isplitl [H]; · iexact H
  iintro H; iexact H

/-- Every staging buffer is held in full. -/
theorem share_eq (c : Dev nD) (w : Fin cfg0.W) : (dats m ρ 0 c).share w = fullShare := by unfold Dat.share; split <;> rfl

/-- What the launch gives a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- The buffers scoped to the kernel are the four scratch buffers. -/
theorem scoped_scratch (c : Dev nD) : (Pipeline.scopedRest (Ix := Unit) (Name := ℕ) (U := UU) (Lvl := ℕ) (Val := Elt F) spec0 c : sProp 𝕄) = scratch c := by
  rw [scopedRest0_eq]; rfl

/-- With them, it is what the device holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = scratch c from scoped_scratch c]
  unfold Φ₀
  iintro ⟨Hs, -, Hr⟩
  isplitl [Hs]; · iexact Hs
  iexact Hr

/-- What a device holds after the body gives back its scratch buffers and semaphores. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = scratch c from scoped_scratch c,
    ownSems0_split, unscopedSems0_bar]
  unfold Φ₁ zeros
  iintro ⟨Hr, HzB, HzS, HzV⟩
  isplitl [HzB]; · iexact HzB
  isplitl [HzS HzV]
  · isplitl [HzS] <;> iassumption
  iexact Hr

/-- The staging copies may be waited for at either end. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m ρ 0 c).arrAt w cfg0.N

/-- Every window's array is at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, at any float values: the eight devices all end, with every window's array at
    `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it began. -/
theorem final_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- The result's array ends at `outC`: its one block is the whole array, written back after the body. -/
theorem final_out (c : Dev nD) : finalA m ρ c (4 : Fin 5) = outC m c := by
  unfold finalA
  refine (dats (F := F) m ρ 0 c).arrAt_eq_of_after_last (4 : Fin 5) t₀ (by decide +kernel) _ fun j => ?_
  rfl

/-- The run, buffer by buffer. -/
theorem run : θ_run defs (onTc (τ := τ) (main (F := F))) ⟨m, fun _ => 0, ρ⟩ (fun r =>
    (∀ c : Dev nD, r.2.mem ((c.tc : Thread nD τ).loc main_v1) = outC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c =>
    ⟨(h.1 c (4 : Fin 5)).trans (final_out m ρ c), (h.1 c (0 : Fin 5)).trans (final_in m ρ c 0 rfl), (h.1 c (1 : Fin 5)).trans (final_in m ρ c 1 rfl),
      (h.1 c (2 : Fin 5)).trans (final_in m ρ c 2 rfl), (h.1 c (3 : Fin 5)).trans (final_in m ρ c 3 rfl)⟩, h.2⟩) (run_main m ρ)

/-- The run's frame: the inputs as they were, every counter at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => (h.1 c).2, h.2⟩) (run m ρ)

end Cert.Moe

end
-- ==== Proof.Twin.lean ====
/-
# 01_k: the two printed texts of the kernel are one program

`Cert.Kernel` and `Cert.KernelIdeal` are printed from the same kernel and no operation differs between them. Here the two
tables of bodies are proved equal at any float values, so that a run of the one is a run of the other.
-/
module

public import proofs.«01_k».proof.Defs
public import proofs.«01_k».proof.Proof.Gen.Kernel
public import proofs.«01_k».proof.Proof.Gen.KernelIdeal

@[expose] public section

noncomputable section

namespace Cert.Moe

open Idealize.ShloMosaic

attribute [local instance] Cert.Kernel.Gen.facts Cert.KernelIdeal.Gen.facts

variable {F : FTy → Type} [FloatOps F]

/-- The two printings give the kernel the same body. -/
theorem twin_body : @Cert.Kernel.cc0_body F _ _ = @Cert.KernelIdeal.cc0_body F _ _ := rfl

/-- Hence their tables of kernel bodies agree, label by label. -/
theorem twin_defs₀ : @Cert.Kernel.defs₀ F _ _ = @Cert.KernelIdeal.defs₀ F _ _ := by
  unfold Cert.Kernel.defs₀ Cert.KernelIdeal.defs₀
  congr 1
  funext l a
  match l, a with
  | 0, (t, s) => exact rfl
  | ⟨n + 1, h⟩, _ => exact absurd h (Nat.not_lt.2 (Nat.le_add_left _ _))

/-- And so do the whole tables. -/
theorem twin_defs : @Cert.Kernel.defs F _ _ = @Cert.KernelIdeal.defs F _ _ :=
  congrArg (Pipeline.defs _) twin_defs₀

/-- What holds of every run of the one text holds of every run of the other. -/
theorem twin_run (σ) (Q) (h : θ_run (Cert.KernelIdeal.defs (F := F)) (onTc (τ := Cert.KernelIdeal.τ) (Cert.KernelIdeal.main (F := F))) σ Q) :
    θ_run (Cert.Kernel.defs (F := F)) (onTc (τ := Cert.Kernel.τ) (Cert.Kernel.main (F := F))) σ Q :=
  (congrArg (fun D => θ_run D (onTc (τ := Cert.KernelIdeal.τ) (Cert.KernelIdeal.main (F := F))) σ Q) (twin_defs (F := F))).mpr h

end Cert.Moe

end
-- ==== Proof.Gates.lean ====
/-
# 01_k: one token's gates over the extended reals

A token has 32 scores and names two experts. The kernel weighs an expert by the unnormalised mass of the token's names
for it over the mass of both names; the reference first normalises the 32 probabilities, then weighs each named expert's
output. With finite scores both are the same sum. Nothing here speaks of a program.
-/
module

public import Idealize.ShloMosaic.PureOps.Ideal
public import Idealize.ShloMosaic.PureOps.Ideal.Laws

@[expose] public section

noncomputable section

namespace Cert.Moe

open Idealize.ShloMosaic
open scoped BigOperators

/-- `a` where the word `i` is the number `e` of an expert, 0 elsewhere. -/
def pick (i : BitVec 32) (e : ℕ) (a : EReal) : EReal := if BitVec.ofNat 32 e = i then a else 0

/-- The largest of the 32 scores. -/
def peak (σ : Fin 32 → EReal) : EReal := Finset.fold max (Ideal.ofBits FTy.f32 0xFF800000#32) σ Finset.univ

/-- The exponential of a score's distance from the largest. -/
def lift (σ : Fin 32 → EReal) (e : Fin 32) : EReal := Ideal.exp (σ e - peak σ)

/-- The unnormalised mass of the expert named `i`: 0 if there is none. -/
def mass (σ : Fin 32 → EReal) (i : BitVec 32) : EReal := ∑ e : Fin 32, pick i e.val (lift σ e)

/-- The kernel's gate for expert number `e`. -/
def gate (σ : Fin 32 → EReal) (i0 i1 : BitVec 32) (e : ℕ) : EReal :=
  Ideal.div (pick i0 e (mass σ i0) + pick i1 e (mass σ i1)) (mass σ i0 + mass σ i1)

/-- The normalised probability of an expert. -/
def prob (σ : Fin 32 → EReal) (e : Fin 32) : EReal := Ideal.div (lift σ e) (∑ e' : Fin 32, lift σ e')

/-- The probability of the expert named `i`: 0 if there is none. -/
def probOf (σ : Fin 32 → EReal) (i : BitVec 32) : EReal := ∑ e : Fin 32, pick i e.val (prob σ e)

/-- The fold of `max` from the bottom is at least every score, -/
theorem le_peak (σ : Fin 32 → EReal) (e : Fin 32) : σ e ≤ peak σ :=
  (Finset.le_fold_max (σ e)).2 (Or.inr ⟨e, Finset.mem_univ _, le_rfl⟩)

/-- and below the top when every score is. -/
theorem peak_lt_top (σ : Fin 32 → EReal) (h : ∀ e, σ e < ⊤) : peak σ < ⊤ := by
  refine (Finset.fold_max_lt ⊤).2 ⟨?_, fun e _ => h e⟩
  have hb : Ideal.ofBits .f32 0xFF800000#32 = ⊥ := by simp [Ideal.ofBits, Ideal.ieee]
  rw [hb]
  exact bot_lt_top

/-- With finite scores every lifted score is a positive real. -/
theorem lift_pos (σ : Fin 32 → EReal) (h : ∀ e, σ e ≠ ⊥ ∧ σ e ≠ ⊤) : ∃ p : Fin 32 → ℝ, (∀ e, 0 < p e) ∧ ∀ e, lift σ e = (p e : EReal) := by
  have ht : peak σ ≠ ⊤ := (peak_lt_top σ fun e => lt_top_iff_ne_top.2 (h e).2).ne
  have hb : peak σ ≠ ⊥ := fun hp => (h 0).1 (le_bot_iff.1 (hp ▸ le_peak σ 0))
  refine ⟨fun e => Real.exp ((σ e).toReal - (peak σ).toReal), fun e => Real.exp_pos _, fun e => ?_⟩
  rw [lift, ← EReal.coe_toReal (h e).2 (h e).1, ← EReal.coe_toReal ht hb, ← EReal.coe_sub, Ideal.exp_coe]
  rfl

/-- A real picked is a real. -/
theorem pick_coe (i : BitVec 32) (e : ℕ) (a : ℝ) : pick i e (a : EReal) = ((if BitVec.ofNat 32 e = i then a else 0 : ℝ) : EReal) := by
  unfold pick
  split <;> simp

/-- A sum of reals, taken among the extended reals. -/
theorem sum_coe {n : ℕ} (f : Fin n → ℝ) : (∑ i, (f i : EReal)) = ((∑ i, f i : ℝ) : EReal) := by
  induction (Finset.univ : Finset (Fin n)) using Finset.cons_induction with
  | empty => simp
  | cons a s ha ih => rw [Finset.sum_cons, Finset.sum_cons, ih, EReal.coe_add]

/-- A nonnegative real passes through any finite sum of extended reals. -/
theorem coe_mul_sum {n : ℕ} (r : ℝ) (hr : 0 ≤ r) (f : Fin n → EReal) : (r : EReal) * ∑ i, f i = ∑ i, (r : EReal) * f i := by
  induction (Finset.univ : Finset (Fin n)) using Finset.cons_induction with
  | empty => simp
  | cons a s ha ih =>
    rw [Finset.sum_cons, Finset.sum_cons, ← ih]
    exact EReal.left_distrib_of_nonneg_of_ne_top (EReal.coe_nonneg.2 hr) (EReal.coe_ne_top r) _ _

/-- The quotient of reals, the divisor positive. -/
theorem div_coe_coe (a b : ℝ) (hb : 0 < b) : Ideal.div (a : EReal) (b : EReal) = ((a / b : ℝ) : EReal) := by
  rw [Ideal.div_coe hb.ne', ← EReal.coe_mul]
  congr 1
  ring

/-- The word of `e` is not the word of another expert. -/
theorem ofNat_inj (e e' : Fin 32) (h : BitVec.ofNat 32 e.val = BitVec.ofNat 32 e'.val) : e = e' := by
  have h2 := congrArg BitVec.toNat h
  rw [BitVec.toNat_ofNat, BitVec.toNat_ofNat, Nat.mod_eq_of_lt (by omega), Nat.mod_eq_of_lt (by omega)] at h2
  exact Fin.ext h2

/-- What both programs compute from a token's scores and names: the gates and the normalised weights are reals, and
    a gate is the sum of the weights of the names that name its expert. -/
theorem weights (σ : Fin 32 → EReal) (i0 i1 : BitVec 32) (h : ∀ e, σ e ≠ ⊥ ∧ σ e ≠ ⊤)
    (hn : ∃ e : Fin 32, BitVec.ofNat 32 e.val = i0 ∨ BitVec.ofNat 32 e.val = i1) :
    ∃ w0 w1 : ℝ, 0 ≤ w0 ∧ 0 ≤ w1
      ∧ (∀ e, gate σ i0 i1 e = ((if BitVec.ofNat 32 e = i0 then w0 else 0 : ℝ) : EReal) + ((if BitVec.ofNat 32 e = i1 then w1 else 0 : ℝ) : EReal))
      ∧ Ideal.div (probOf σ i0) (probOf σ i0 + probOf σ i1) = (w0 : EReal)
      ∧ Ideal.div (probOf σ i1) (probOf σ i0 + probOf σ i1) = (w1 : EReal) := by
  obtain ⟨p, hp, hl⟩ := lift_pos σ h
  have hS : 0 < ∑ e, p e := Finset.sum_pos (fun e _ => hp e) ⟨0, Finset.mem_univ _⟩
  let q (i : BitVec 32) : ℝ := ∑ e : Fin 32, if BitVec.ofNat 32 e.val = i then p e else 0
  have hq (i) : 0 ≤ q i := Finset.sum_nonneg fun e _ => by
    split
    · exact (hp e).le
    · exact le_rfl
  have hmass (i) : mass σ i = (q i : EReal) := by
    simp only [mass, hl, pick_coe]
    exact sum_coe _
  have hprob (i) : probOf σ i = ((q i / ∑ e, p e : ℝ) : EReal) := by
    simp only [probOf, prob, hl, sum_coe, div_coe_coe _ _ hS, pick_coe]
    rw [Finset.sum_div]
    refine congrArg _ (Finset.sum_congr rfl fun e _ => ?_)
    split <;> simp
  have hpos : 0 < q i0 + q i1 := by
    obtain ⟨e, he⟩ := hn
    have key (i) (hi : BitVec.ofNat 32 e.val = i) : 0 < q i :=
      Finset.sum_pos' (fun e' _ => by
        split
        · exact (hp e').le
        · exact le_rfl) ⟨e, Finset.mem_univ _, by rw [if_pos hi]; exact hp e⟩
    rcases he with he | he
    · exact add_pos_of_pos_of_nonneg (key _ he) (hq _)
    · exact add_pos_of_nonneg_of_pos (hq _) (key _ he)
  have hpos' : 0 < q i0 / (∑ e, p e) + q i1 / (∑ e, p e) := by rw [← add_div]; exact div_pos hpos hS
  have hw (a : ℝ) : a / (∑ e, p e) / (q i0 / (∑ e, p e) + q i1 / (∑ e, p e)) = a / (q i0 + q i1) := by
    rw [← add_div, div_div_div_cancel_right₀ hS.ne']
  refine ⟨q i0 / (q i0 + q i1), q i1 / (q i0 + q i1), div_nonneg (hq _) hpos.le, div_nonneg (hq _) hpos.le, fun e => ?_, ?_, ?_⟩
  · rw [gate, hmass, hmass, pick_coe, pick_coe, ← EReal.coe_add, ← EReal.coe_add, div_coe_coe _ _ hpos, ← EReal.coe_add]
    congr 1
    rw [add_div]
    congr 1 <;> split <;> simp
  · rw [hprob, hprob, ← EReal.coe_add, div_coe_coe _ _ hpos', hw]
  · rw [hprob, hprob, ← EReal.coe_add, div_coe_coe _ _ hpos', hw]

/-- One expert: a nonnegative real gate on the token's entries passes out of the product with the expert's column. -/
theorem gated_dot (x w : Fin 512 → EReal) (a b : ℝ) (ha : 0 ≤ a) (hb : 0 ≤ b) :
    ∑ d, (x d * ((a : EReal) + (b : EReal))) * w d = (a : EReal) * (∑ d, w d * x d) + (b : EReal) * (∑ d, w d * x d) := by
  rw [← EReal.right_distrib_of_nonneg (EReal.coe_nonneg.2 ha) (EReal.coe_nonneg.2 hb), ← EReal.coe_add, coe_mul_sum _ (add_nonneg ha hb)]
  refine Finset.sum_congr rfl fun d _ => ?_
  rw [mul_comm (x d), mul_assoc, mul_comm (x d)]

/-- A real weight on the experts that a word names, against the sum of what it names. -/
theorem pick_mul_sum (i : BitVec 32) (w : ℝ) (hw : 0 ≤ w) (y : Fin 32 → EReal) :
    ∑ e : Fin 32, ((if BitVec.ofNat 32 e.val = i then w else 0 : ℝ) : EReal) * y e = (w : EReal) * ∑ e : Fin 32, pick i e.val (y e) := by
  rw [coe_mul_sum _ hw]
  refine Finset.sum_congr rfl fun e _ => ?_
  unfold pick
  split <;> simp

/-- The equation: the sum over all experts of the gated products is the normalised weighted sum of the named ones. -/
theorem gated_eq (σ : Fin 32 → EReal) (i0 i1 : BitVec 32) (h : ∀ e, σ e ≠ ⊥ ∧ σ e ≠ ⊤)
    (hn : ∃ e : Fin 32, BitVec.ofNat 32 e.val = i0 ∨ BitVec.ofNat 32 e.val = i1) (x : Fin 512 → EReal) (W : Fin 32 → Fin 512 → EReal) :
    ∑ e : Fin 32, ∑ d, (x d * gate σ i0 i1 e.val) * W e d
      = Ideal.div (probOf σ i0) (probOf σ i0 + probOf σ i1) * (∑ e : Fin 32, pick i0 e.val (∑ d, W e d * x d))
        + Ideal.div (probOf σ i1) (probOf σ i0 + probOf σ i1) * (∑ e : Fin 32, pick i1 e.val (∑ d, W e d * x d)) := by
  obtain ⟨w0, w1, h0, h1, hg, e0, e1⟩ := weights σ i0 i1 h hn
  rw [e0, e1, ← pick_mul_sum i0 w0 h0, ← pick_mul_sum i1 w1 h1, ← Finset.sum_add_distrib]
  refine Finset.sum_congr rfl fun e _ => ?_
  simp only [hg]
  exact gated_dot x (W e) _ _ (by split <;> first | exact h0 | exact le_rfl) (by split <;> first | exact h1 | exact le_rfl)

/-- Among the 32 experts, the word of `k` picks the entry of `k` alone. -/
theorem sum_pick (k : Fin 32) (a : Fin 32 → EReal) : ∑ e : Fin 32, pick (BitVec.ofNat 32 k.val) e.val (a e) = a k := by
  unfold pick
  rw [Finset.sum_eq_single k (fun e _ he => if_neg fun h => he (ofNat_inj e k h)) (fun h => absurd (Finset.mem_univ k) h), if_pos rfl]

/-- The equation with the two named experts written out: the kernel's sum over all 32 experts has the two of them only. -/
theorem gated_named (σ : Fin 32 → EReal) (k0 k1 : Fin 32) (h : ∀ e, σ e ≠ ⊥ ∧ σ e ≠ ⊤) (x : Fin 512 → EReal) (W : Fin 32 → Fin 512 → EReal) :
    ∑ e : Fin 32, ∑ d, (x d * gate σ (BitVec.ofNat 32 k0.val) (BitVec.ofNat 32 k1.val) e.val) * W e d
      = Ideal.div (prob σ k0) (prob σ k0 + prob σ k1) * (∑ d, x d * W k0 d)
        + Ideal.div (prob σ k1) (prob σ k0 + prob σ k1) * (∑ d, x d * W k1 d) := by
  rw [gated_eq σ _ _ h ⟨k0, Or.inl rfl⟩]
  simp only [probOf, sum_pick, mul_comm (W _ _)]

end Cert.Moe

end
-- ==== Proof.Scores.lean ====
/-
# 01_k: scores, and comparison of words as a choice
-/
module

public import proofs.«01_k».proof.Proof.Gates
public import Idealize.ShloMosaic.Lib.Pointwise
public import Idealize.ShloMosaic.Lib.WordCmp

@[expose] public section

noncomputable section

namespace Cert.Moe

open Idealize.ShloMosaic

/-- Token `n`'s score for expert `e`: the row of the tokens by the column of the router. -/
def score (x : (⟨2, ![1024, 512]⟩ : Shape).Idx → EReal) (w : (⟨2, ![512, 32]⟩ : Shape).Idx → EReal) (n : Fin 1024) (e : Fin 32) : EReal :=
  ∑ d : Fin 512, x (ix2 n d) * w (ix2 d e)

/-- A choice by the comparison of an expert's number with a word, 0 otherwise. -/
theorem select_pick (e : ℕ) (i : BitVec 32) (a : EReal) : Scalar.select (IntOp.cmpi .eq (BitVec.ofNat 32 e) i) a 0 = pick i e a := by
  rw [WordCmp.cmpi_eq_eq, WordCmp.select_ofBool, pick]
  simp only [decide_eq_true_eq]

/-- The same with the two words the other way round. -/
theorem select_pick' (w : BitVec 32) (e : ℕ) (i : BitVec 32) (hw : w = BitVec.ofNat 32 e) (a : EReal) : Scalar.select (IntOp.cmpi .eq i w) a 0 = pick i e a := by
  subst hw
  rw [WordCmp.cmpi_eq_eq, WordCmp.select_ofBool, pick]
  simp only [decide_eq_true_eq, @eq_comm _ i]

end Cert.Moe

end
-- ==== Proof.KerValue.lean ====
/-
# 01_k: the kernel's result, entry by entry

What each device's buffers hold over the extended reals: the gated rows, the stacked experts, the blocks sent and the
result, each as a term of the arguments.
-/
module

public import proofs.«01_k».proof.Proof.Contents
public import proofs.«01_k».proof.Proof.Scores
public import Idealize.ShloMosaic.Lib.IdealHost
public import Idealize.ShloMosaic.Lib.Pipeline.ValueKit

@[expose] public section

set_option maxRecDepth 16384

noncomputable section

namespace Cert.Moe

open Idealize.ShloMosaic Idealize.ShloMosaic.TcCoe Cert.KernelIdeal Cert.KernelIdeal.Gen
open scoped BigOperators

variable (m : (ℓ : Loc nD τ sig) → Buf (Elt Ideal) ℓ)

/-- Device `c`'s tokens. -/
def aX (c : Dev nD) : (⟨2, ![1024, 512]⟩ : Shape).Idx → EReal := m ((c : Thread nD τ).loc main_arg0)
/-- Device `c`'s router. -/
def aR (c : Dev nD) : (⟨2, ![512, 32]⟩ : Shape).Idx → EReal := m ((c : Thread nD τ).loc main_arg1)
/-- Device `c`'s names. -/
def aI (c : Dev nD) : (⟨2, ![1024, 2]⟩ : Shape).Idx → BitVec 32 := m ((c : Thread nD τ).loc main_arg2)
/-- Device `c`'s four experts. -/
def aW (c : Dev nD) : (⟨3, ![4, 512, 1024]⟩ : Shape).Idx → EReal := m ((c : Thread nD τ).loc main_arg3)

/-- An index moved by nothing is itself. -/
theorem same_idx {s : Shape} (i j : s.Idx) (b : Fin s.rank → ℕ) (h : ∀ a, (j a).val = 0 * b a + 1 * (i a).val) : j = i :=
  funext fun a => Fin.ext (by rw [h a, Nat.zero_mul, Nat.zero_add, Nat.one_mul])

/-- The window a device stages an argument through is the whole of it: the tokens. -/
theorem xsC_eq (c : Dev nD) : xsC m c = aX m c :=
  funext fun i => congrArg (m ((c : Thread nD τ).loc main_arg0)) (same_idx i _ S1024x512.size fun _ => rfl)
/-- So it is of the router, -/
theorem rwC_eq (c : Dev nD) : rwC m c = aR m c :=
  funext fun i => congrArg (m ((c : Thread nD τ).loc main_arg1)) (same_idx i _ S512x32.size fun _ => rfl)
/-- of the names -/
theorem idC_eq (c : Dev nD) : idC m c = aI m c :=
  funext fun i => congrArg (m ((c : Thread nD τ).loc main_arg2)) (same_idx i _ S1024x2.size fun _ => rfl)
/-- and of the experts. -/
theorem ewC_eq (c : Dev nD) : ewC m c = aW m c :=
  funext fun i => congrArg (m ((c : Thread nD τ).loc main_arg3)) (same_idx i _ S4x512x1024.size fun _ => rfl)

/-- The first column of a device's names, as the kernel loads it. -/
theorem idC0_at (c : Dev nD) (n : Fin 1024) : idC0 m c (ix2 n 0) = aI m c (ix2 n 0) := by
  rw [← idC_eq]
  refine congrArg (idC m c) (funext fun a => Fin.ext ?_)
  fin_cases a
  · show 0 + 1 * n.val = n.val
    omega
  · rfl

/-- The second column of a device's names, as the kernel loads it. -/
theorem idC1_at (c : Dev nD) (n : Fin 1024) : idC1 m c (ix2 n 0) = aI m c (ix2 n 1) := by
  rw [← idC_eq]
  refine congrArg (idC m c) (funext fun a => Fin.ext ?_)
  fin_cases a
  · show 0 + 1 * n.val = n.val
    omega
  · rfl

/-- The kernel's exponentials, entry by entry. -/
theorem pay2_at (x : Vec Ideal S1024x512 .bf16) (w : Vec Ideal S512x32 .bf16) (n : Fin 1024) (e : Fin 32) :
    (k0_pay2 x w (ix2 n e) : EReal) = lift (score x w n) e := by
  pointwise [k0_pay2, k0_pay1]
  rfl

/-- The kernel's mass of the first name, -/
theorem pay5_at (x : Vec Ideal S1024x512 .bf16) (w : Vec Ideal S512x32 .bf16) (i : Vec Ideal S1024x1 .i32) (n : Fin 1024) :
    (k0_pay5 x w i (ix2 n 0) : EReal) = mass (score x w n) (i (ix2 n 0)) := by
  pointwise [k0_pay5, k0_pay3]
  simp only [pay2_at, select_pick]
  rfl

/-- and of the second. -/
theorem pay6_at (x : Vec Ideal S1024x512 .bf16) (w : Vec Ideal S512x32 .bf16) (i : Vec Ideal S1024x1 .i32) (n : Fin 1024) :
    (k0_pay6 x w i (ix1 n) : EReal) = mass (score x w n) (i (ix2 n 0)) := by
  pointwise [k0_pay6, k0_pay4]
  simp only [pay2_at, select_pick]
  rfl

/-- The number of device `c`'s local expert `j`, as the kernel computes it. -/
theorem myW_at (c : Dev nD) (j : Fin 4) : Scalar.addi (Scalar.muli (myW c) 4#32) (BitVec.ofNat 32 j.val) = BitVec.ofNat 32 (4 * c.val + j.val) := by
  revert c j; decide

/-- A token's row scaled by its gate as printed: the two masked masses, over the sum of the two masses. -/
theorem gated_printed (w : BitVec 32) (e : ℕ) (hw : w = BitVec.ofNat 32 e) (x g0 g1 : EReal) (i0 i1 : BitVec 32) :
    x * Ideal.div (Scalar.select (IntOp.cmpi .eq i0 w) g0 0 + Scalar.select (IntOp.cmpi .eq i1 w) g1 0) (g0 + g1)
      = x * Ideal.div (pick i0 e g0 + pick i1 e g1) (g0 + g1) := by
  rw [select_pick' w e i0 hw, select_pick' w e i1 hw]

/-- Column block `j` of device `c`'s gated buffer: the token rows scaled by their gate for expert `4 c + j`. -/
theorem colOf_at (c : Dev nD) (j : Fin 4) (n : Fin 1024) (d : Fin 512) :
    (colOf m c j.val (ix2 n d) : EReal)
      = aX m c (ix2 n d) * gate (score (aX m c) (aR m c) n) (aI m c (ix2 n 0)) (aI m c (ix2 n 1)) (4 * c.val + j.val) := by
  have h5 := pay5_at (aX m c) (aR m c) (idC0 m c) n
  have h6 := pay6_at (aX m c) (aR m c) (idC1 m c) n
  rw [idC0_at] at h5
  rw [idC1_at] at h6
  have e0 := idC0_at m c n
  have e1 := idC1_at m c n
  fin_cases j
  · show (col0 m c (ix2 n d) : EReal) = _
    unfold col0
    rw [xsC_eq, rwC_eq]
    pointwise [k0_pay10, k0_pay7, k0_pay8, k0_pay1, k0_pay3, k0_pay4]
    rw [h5, h6, e0, e1]
    exact gated_printed _ _ (myW_at c 0) _ _ _ _ _
  · show (col1 m c (ix2 n d) : EReal) = _
    unfold col1
    rw [xsC_eq, rwC_eq]
    pointwise [k0_pay11, k0_pay12, k0_pay7, k0_pay8, k0_pay1, k0_pay3, k0_pay4]
    rw [h5, h6, e0, e1]
    exact gated_printed _ _ (myW_at c 1) _ _ _ _ _
  · show (col2 m c (ix2 n d) : EReal) = _
    unfold col2
    rw [xsC_eq, rwC_eq]
    pointwise [k0_pay13, k0_pay7, k0_pay8, k0_pay1, k0_pay3, k0_pay4]
    rw [h5, h6, e0, e1]
    exact gated_printed _ _ (myW_at c 2) _ _ _ _ _
  · show (col3 m c (ix2 n d) : EReal) = _
    unfold col3
    rw [xsC_eq, rwC_eq]
    pointwise [k0_pay14, k0_pay7, k0_pay8, k0_pay1, k0_pay3, k0_pay4]
    rw [h5, h6, e0, e1]
    exact gated_printed _ _ (myW_at c 3) _ _ _ _ _

/-- Device `s`'s term for token `n`, local expert `j`, feature `d` and result column `f`. -/
def term (s : Dev nD) (n f : Fin 1024) (j : Fin 4) (d : Fin 512) : EReal :=
  aX m s (ix2 n d) * gate (score (aX m s) (aR m s) n) (aI m s (ix2 n 0)) (aI m s (ix2 n 1)) (4 * s.val + j.val) * aW m s (ix3 j d f)

/-- Device `s`'s share of token `n`'s result. -/
def share (s : Dev nD) (n f : Fin 1024) : EReal := ∑ j : Fin 4, ∑ d : Fin 512, term m s n f j d

/-- The stacked experts at row `512 j + d`: expert `j` at feature `d`. -/
theorem EW_at (c : Dev nD) (q : Fin 2048) (f : Fin 1024) :
    (EW m c (ix2 q f) : EReal) = aW m c (ix3 ⟨q.val / 512, by omega⟩ ⟨q.val % 512, by omega⟩ f) := by
  unfold EW
  rw [ewC_eq]
  pointwise [k0_pay9]

/-- The entries of the gated buffer and of the stacked experts, as extended reals. -/
def gx (s : Dev nD) (n : Fin 1024) (q : Fin 2048) : EReal := XG m s (ix2 n q)
@[inherit_doc gx] def we (s : Dev nD) (q : Fin 2048) (f : Fin 1024) : EReal := EW m s (ix2 q f)

/-- The inner product of a row of the gated buffer with a column of the stacked experts is the device's share. -/
theorem row_dot (s : Dev nD) (n f : Fin 1024) : ∑ q : Fin 2048, gx m s n q * we m s q f = share m s n f := by
  refine Fin.sum_divmod_congr (F := fun q : Fin 2048 => gx m s n q * we m s q f)
    (f := fun (j : Fin 4) (d : Fin 512) => term m s n f j d) fun q hj hd => ?_
  unfold we
  rw [EW_at]
  exact congrArg (· * aW m s (ix3 ⟨q.val / 512, hj⟩ ⟨q.val % 512, hd⟩ f)) (colOf_at m s ⟨q.val / 512, hj⟩ n ⟨q.val % 512, hd⟩)

/-- The rows a device sends on its round `k`: those of the device it sends to. -/
theorem rows_at (c : Dev nD) (k : Fin 7) (r : Fin 128) (q : Fin 2048) :
    rowsC m c k (ix2 r q) = XG m c (ix2 ⟨(up c k).val * 128 + r.val, by have : (up c k).val < 8 := (up c k).isLt; omega⟩ q) := by
  refine congrArg (XG m c) (funext fun a => Fin.ext ?_)
  show k0_off1 c (BitVec.ofNat 32 (1 + k.val)) a + 1 * (ix2 r q a).val = _
  rw [k0_off1_eq c k]
  fin_cases a
  · show 128 * ((c.val + k.val + 1) % 8) + 1 * r.val = (c.val + k.val + 1) % 8 * 128 + r.val
    omega
  · show 0 + 1 * q.val = q.val
    omega

/-- The rows a device keeps: its own. -/
theorem own_rows_at (c : Dev nD) (r : Fin 128) (q : Fin 2048) :
    ownC m c (ix2 r q) = XG m c (ix2 ⟨c.val * 128 + r.val, by have : c.val < 8 := c.isLt; omega⟩ q) := by
  refine congrArg (XG m c) (funext fun a => Fin.ext ?_)
  show k0_off2 c a + 1 * (ix2 r q a).val = _
  rw [k0_off2_eq c]
  fin_cases a
  · show 128 * c.val + 1 * r.val = c.val * 128 + r.val
    omega
  · show 0 + 1 * q.val = q.val
    omega

/-- Token `r` of device `c`. -/
def tok (c : Dev nD) (r : Fin 128) : Fin 1024 := ⟨c.val * 128 + r.val, by have : c.val < 8 := c.isLt; omega⟩

/-- The device's own part of its result. -/
theorem own_at (c : Dev nD) (r : Fin 128) (f : Fin 1024) : (own m c (ix2 r f) : EReal) = share m c (tok c r) f := by
  unfold own
  pointwise [k0_pay23]
  simp only [own_rows_at]
  exact row_dot m c (tok c r) f

/-- The block a device sends on its round `k`: its share of the tokens of the device it sends to. -/
theorem blk_at (c : Dev nD) (k : Fin 7) (r : Fin 128) (f : Fin 1024) : (blk m c k (ix3 0 r f) : EReal) = share m c (tok (up c k) r) f := by
  unfold blk
  pointwise [k0_pay15]
  simp only [rows_at]
  exact row_dot m c (tok (up c k) r) f

/-- The block a device receives from the device `k + 1` below it: that device's share of its tokens. -/
theorem got_at (c : Dev nD) (k : Fin 7) (r : Fin 128) (f : Fin 1024) : (got m c k (ix3 0 r f) : EReal) = share m (dn c k) (tok c r) f := by
  unfold got
  rw [blk_at, up_dn]

/-- A running sum and a received block, added. -/
theorem pay24_at (x : Vec Ideal S128x1024 .f32) (w : Vec Ideal S1x128x1024 .bf16) (r : Fin 128) (f : Fin 1024) :
    (k0_pay24 x w (ix2 r f) : EReal) = (x (ix2 r f) : EReal) + (w (ix3 0 r f) : EReal) := by
  pointwise [k0_pay24]

/-- A sum over the devices, taken from any one of them on and down the ring. -/
theorem sum_ring (g : Dev nD → EReal) (c : Dev nD) :
    g c + g (dn c 0) + g (dn c 1) + g (dn c 2) + g (dn c 3) + g (dn c 4) + g (dn c 5) + g (dn c 6) = ∑ s : Dev nD, g s := by
  have h : ∀ c : Fin 8, (up c 6 : Fin 8) = c - 1 ∧ (up c 5 : Fin 8) = c - 2 ∧ (up c 4 : Fin 8) = c - 3 ∧ (up c 3 : Fin 8) = c - 4
      ∧ (up c 2 : Fin 8) = c - 5 ∧ (up c 1 : Fin 8) = c - 6 ∧ (up c 0 : Fin 8) = c - 7 ∧ c - 0 = c := by decide
  obtain ⟨h0, h1, h2, h3, h4, h5, h6, h7⟩ := h c
  refine Eq.trans ?_ ((Equiv.subLeft (c : Fin 8)).sum_comp (fun s : Fin 8 => g s))
  rw [Fin.sum_univ_eight]
  show g c + g (up c 6) + g (up c 5) + g (up c 4) + g (up c 3) + g (up c 2) + g (up c 1) + g (up c 0)
    = g ((c : Fin 8) - 0) + g ((c : Fin 8) - 1) + g ((c : Fin 8) - 2) + g ((c : Fin 8) - 3) + g ((c : Fin 8) - 4) + g ((c : Fin 8) - 5)
      + g ((c : Fin 8) - 6) + g ((c : Fin 8) - 7)
  rw [h0, h1, h2, h3, h4, h5, h6, h7]

/-- The kernel's result at row `r` of device `c`: the shares of all devices of that token. -/
theorem out_at (c : Dev nD) (r : Fin 128) (f : Fin 1024) : (outC m c (ix2 r f) : EReal) = ∑ s : Dev nD, share m s (tok c r) f := by
  unfold outC
  simp only [pay24_at, own_at, got_at]
  exact sum_ring (fun s => share m s (tok c r) f) c

end Cert.Moe

end
-- ==== Proof.Lookup.lean ====
/-
# 01_k: the reference's look-ups

An entry of what `probs[tokens, e]` and `expert_W[e]` read, the words being numbers that are in range.
-/
module

public import proofs.«01_k».proof.ReferenceIdeal
public import Idealize.ShloMosaic.Lib.Pointwise
public import Idealize.ShloMosaic.Lib.WordCmp
public import Idealize.ShloMosaic.PureOps.ShapeOps

@[expose] public section

noncomputable section

namespace Cert.Moe.Ref

open Idealize.ShloMosaic Cert.ReferenceIdeal
open scoped BigOperators

/-- The word of a number below 1024, read as a signed number, is that number. -/
theorem small_word (e : ℕ) (he : e < 1024) : (BitVec.ofNat 32 e).toInt.toNat = e := by
  rw [WordCmp.toInt_ofNat_of_lt (by omega)]
  rfl

/-- Such a word is not below 0, so nothing is added to it before a look-up. -/
theorem wrap_word (w k : BitVec 32) (e : ℕ) (he : e < 1024) (hw : w = BitVec.ofNat 32 e) :
    Scalar.select (IntOp.cmpi .slt w 0#32) (IntOp.addi w k) w = w := by
  subst hw
  have h : IntOp.cmpi .slt (BitVec.ofNat 32 e) 0#32 = 0#1 := by
    rw [WordCmp.cmpi_slt_eq, WordCmp.ofBool_decide_eq_zero_iff, WordCmp.toInt_ofNat_of_lt (by omega)]
    simp
  rw [h]
  rfl

/-- A gather reads the operand at the sum of its start, its batch coordinate and its offset on each axis. -/
theorem gather_at {α : Type} {s si t : Shape} {w : ℕ} (d : GatherDims s si t) (x : s.Idx → α) (idx : IVec si w) (j : t.Idx) (i : s.Idx)
    (h : ∀ a, d.start j idx a + d.batchCoord j a + d.offCoord j a = (i a).val) : Host.gather d x idx j = x i :=
  congrArg x (funext fun a => Fin.ext (h a))

variable [Facts]

/-- How the look-up of a probability reads its table. -/
abbrev dimsP := gather_S1024x32_S1024x2_S1024_n_01_n_n_01_1_11

/-- How the look-up of an expert reads its table. -/
abbrev dimsE := gather_S32x512x1024_S1024x1_S1024x512x1024_12_0_n_n_0_1_15121024

/-- The two axes of a table. -/
theorem both : ∀ a : Fin 2, a ∈ ([0, 1] : List (Fin 2)) := by decide

/-- `probs[tokens, e]` at a token: its row's entry in the column that its word numbers. -/
theorem prob_at {α : Type} (x : S1024x32.Idx → α) (idx : IVec S1024x2 32) (n : Fin 1024) (e : Fin 32)
    (h0 : idx (ix2 n 0) = BitVec.ofNat 32 n.val) (h1 : idx (ix2 n 1) = BitVec.ofNat 32 e.val) :
    Host.gather dimsP x idx (ix1 n) = x (ix2 n e) := by
  refine gather_at _ x idx _ _ fun a => ?_
  rw [GatherDims.batchCoord_eq_zero _ _ _ List.not_mem_nil,
    GatherDims.offCoord_eq_zero _ _ _ (fun h => ((GatherDims.mem_sKept _ _).mp h).1 (both a))]
  unfold GatherDims.start
  rw [dif_pos (show a ∈ dimsP.startIndexMap from both a)]
  fin_cases a
  · show min (idx (GatherDims.siIdx _ (ix1 n) ⟨0, _⟩)).toInt.toNat 1023 + 0 + 0 = n.val
    rw [show GatherDims.siIdx dimsP (ix1 n) ⟨0, Nat.zero_lt_two⟩ = ix2 n 0 from
      funext fun b => Fin.ext (by fin_cases b <;> rfl), h0, small_word _ n.isLt]
    omega
  · show min (idx (GatherDims.siIdx _ (ix1 n) ⟨1, _⟩)).toInt.toNat 31 + 0 + 0 = e.val
    rw [show GatherDims.siIdx dimsP (ix1 n) ⟨1, Nat.one_lt_two⟩ = ix2 n 1 from
      funext fun b => Fin.ext (by fin_cases b <;> rfl), h1, small_word _ (by omega)]
    omega

/-- `expert_W[e]` at a token: the expert that its word numbers. -/
theorem expert_at {α : Type} (x : S32x512x1024.Idx → α) (idx : IVec S1024x1 32) (n : Fin 1024) (d : Fin 512) (f : Fin 1024) (e : Fin 32)
    (h : idx (ix2 n 0) = BitVec.ofNat 32 e.val) :
    Host.gather dimsE x idx (ix3 n d f) = x (ix3 e d f) := by
  refine gather_at _ x idx _ _ fun a => ?_
  rw [GatherDims.batchCoord_eq_zero _ _ _ List.not_mem_nil]
  rcases (show ∀ a : Fin 3, a = 0 ∨ a = 1 ∨ a = 2 by decide) a with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ dimsE.startIndexMap from List.mem_singleton.mpr rfl)]
    show min (idx (GatherDims.siIdx _ (ix3 n d f) ⟨0, _⟩)).toInt.toNat 31 + 0 + 0 = e.val
    rw [show GatherDims.siIdx dimsE (ix3 n d f) ⟨0, Nat.one_pos⟩ = ix2 n 0 from
      funext fun b => Fin.ext (by fin_cases b <;> rfl), h, small_word _ (by omega)]
    omega
  · unfold GatherDims.start GatherDims.offCoord
    rw [dif_neg (show (1 : Fin 3) ∉ dimsE.startIndexMap from (by decide : (1 : Fin 3) ∉ ([0] : List (Fin 3)))),
      dif_pos (show (1 : Fin 3) ∈ dimsE.sKept from (by decide : (1 : Fin 3) ∈ ([1, 2] : List (Fin 3))))]
    exact (Nat.zero_add _)
  · unfold GatherDims.start GatherDims.offCoord
    rw [dif_neg (show (2 : Fin 3) ∉ dimsE.startIndexMap from (by decide : (2 : Fin 3) ∉ ([0] : List (Fin 3)))),
      dif_pos (show (2 : Fin 3) ∈ dimsE.sKept from (by decide : (2 : Fin 3) ∈ ([1, 2] : List (Fin 3))))]
    exact (Nat.zero_add _)

/-- A row times a column of the looked-up expert. -/
theorem expert_dot (X : Fin 512 → EReal) (x : S32x512x1024.Idx → EReal) (idx : IVec S1024x1 32) (n f : Fin 1024) (e : Fin 32)
    (h : idx (ix2 n 0) = BitVec.ofNat 32 e.val) :
    ∑ d : Fin 512, X d * Host.gather dimsE x idx (ix3 n d f)
      = ∑ d : Fin 512, X d * x (ix3 e d f) :=
  Finset.sum_congr rfl fun d _ => by rw [expert_at x idx n d f e h]

end Cert.Moe.Ref

end
-- ==== Proof.RefValue.lean ====
/-
# 01_k: the reference's result, entry by entry
-/
module

public import proofs.«01_k».proof.Defs
public import proofs.«01_k».proof.Proof.Gen.ReferenceIdeal.Run
public import proofs.«01_k».proof.Proof.Lookup
public import proofs.«01_k».proof.Proof.Scores
public import Idealize.ShloMosaic.Lib.IdealHost

@[expose] public section

set_option maxRecDepth 16384

noncomputable section

namespace Cert.Moe.Ref

open Idealize.ShloMosaic Cert.ReferenceIdeal Cert.ReferenceIdeal.Gen

variable (m : (ℓ : Loc nD τ sig) → Buf (Elt Ideal) ℓ) (c : Dev nD)

/-- The reference's tokens. -/
def xs : (⟨2, ![1024, 512]⟩ : Shape).Idx → EReal := m (c.tc.loc main_arg0)
/-- The reference's router. -/
def rws : (⟨2, ![512, 32]⟩ : Shape).Idx → EReal := m (c.tc.loc main_arg1)
/-- The reference's names. -/
def ids : (⟨2, ![1024, 2]⟩ : Shape).Idx → BitVec 32 := m (c.tc.loc main_arg2)
/-- The reference's experts. -/
def ew : (⟨3, ![32, 512, 1024]⟩ : Shape).Idx → EReal := m (c.tc.loc main_arg3)

/-- Entry (`n`, `f`) of the reference's result, token `n` naming experts `e0` and `e1`: each one's normalised weight, times
    the token's row by the expert's column. -/
theorem value (n f : Fin 1024) (e0 e1 : Fin 32) (h0 : BitVec.ofNat 32 e0.val = ids m c (ix2 n 0)) (h1 : BitVec.ofNat 32 e1.val = ids m c (ix2 n 1)) :
    (Value.res_main_v71 m c (ix2 n f) : EReal)
    = Ideal.div (prob (score (xs m c) (rws m c) n) e0) (prob (score (xs m c) (rws m c) n) e0 + prob (score (xs m c) (rws m c) n) e1)
        * (∑ d : Fin 512, xs m c (ix2 n d) * ew m c (ix3 e0 d f))
      + Ideal.div (prob (score (xs m c) (rws m c) n) e1) (prob (score (xs m c) (rws m c) n) e0 + prob (score (xs m c) (rws m c) n) e1)
        * (∑ d : Fin 512, xs m c (ix2 n d) * ew m c (ix3 e1 d f)) := by
  have named (k : BitVec 32) (w : BitVec 32) (e : Fin 32) (h : BitVec.ofNat 32 e.val = w) :
      Scalar.select (IntOp.cmpi .slt w 0#32) (IntOp.addi w k) w = BitVec.ofNat 32 e.val :=
    (wrap_word w k e.val (by omega) h.symm).trans h.symm
  pointwise [Value.res_main_v71]
  rw [prob_at _ _ n e0 ?_ ?_, prob_at _ _ n e1 ?_ ?_, expert_dot _ _ _ n f e0 ?_, expert_dot _ _ _ n f e1 ?_]
  · pointwise []
    rfl
  all_goals pointwise []
  all_goals first
    | exact named _ _ e0 h0
    | exact named _ _ e1 h1
    | exact wrap_word _ _ n.val n.isLt rfl

end Cert.Moe.Ref

end
-- ==== Proof.Equal.lean ====
/-
# 01_k: the two results are equal

Given the arguments of the kernel as the blocks of the reference's, and every token routed: device `c`'s result is rows
`128 c` on of the reference's.
-/
module

public import proofs.«01_k».proof.Proof.Gates
public import proofs.«01_k».proof.Proof.KerValue
public import proofs.«01_k».proof.Proof.RefValue

@[expose] public section

set_option maxRecDepth 16384

noncomputable section

namespace Cert.Moe

open Idealize.ShloMosaic Idealize.ShloMosaic.TcCoe
open scoped BigOperators

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The devices' arguments are the reference's: the tokens, the router and the names whole, the experts in blocks of four. -/
structure Laid : Prop where
  x : ∀ c, aX m c = Ref.xs m' 0
  r : ∀ c, aR m c = Ref.rws m' 0
  i : ∀ c, aI m c = Ref.ids m' 0
  w : ∀ c, aW m c = Layout.block ⟨3, ![4, 512, 1024]⟩ ⟨3, ![32, 512, 1024]⟩ 0 8 c (Ref.ew m' 0)

variable {m m'}

/-- Expert `j` of device `s` is expert `4 s + j` of all. -/
theorem Laid.w_at (h : Laid m m') (s : Dev Cert.KernelIdeal.nD) (j : Fin 4) (d : Fin 512) (f : Fin 1024) (hl : s.val * 4 + j.val < 32) :
    aW m s (ix3 j d f) = Ref.ew m' 0 (ix3 ⟨s.val * 4 + j.val, hl⟩ d f) := by
  rw [h.w s, Layout.block_apply]
  refine congrArg (Ref.ew m' 0) (funext fun a => Fin.ext ?_)
  rw [Layout.Tiles.idx_val]
  fin_cases a <;> rfl

/-- The shares of all devices, as one sum over the 32 experts. -/
theorem sum_share (h : Laid m m') (n f : Fin 1024) :
    ∑ s : Dev Cert.KernelIdeal.nD, share m s n f
      = ∑ e : Fin 32, ∑ d : Fin 512, (Ref.xs m' 0 (ix2 n d)
          * gate (score (Ref.xs m' 0) (Ref.rws m' 0) n) (Ref.ids m' 0 (ix2 n 0)) (Ref.ids m' 0 (ix2 n 1)) e.val) * Ref.ew m' 0 (ix3 e d f) := by
  refine Fin.sum_mul_add_congr (S := 8) (n := 4) (F := fun s j => ∑ d : Fin 512, term m s n f j d)
    (f := fun e : Fin 32 => ∑ d : Fin 512, (Ref.xs m' 0 (ix2 n d)
          * gate (score (Ref.xs m' 0) (Ref.rws m' 0) n) (Ref.ids m' 0 (ix2 n 0)) (Ref.ids m' 0 (ix2 n 1)) e.val) * Ref.ew m' 0 (ix3 e d f)) fun s j hl => ?_
  refine Finset.sum_congr rfl fun d _ => ?_
  unfold term
  rw [h.w_at s j d f hl, h.x s, h.r s, h.i s, Nat.mul_comm 4 s.val]

/-- Device `c`'s result is its block of the reference's. -/
theorem out_eq (h : Laid m m') (hs : ∀ n e, score (Ref.xs m' 0) (Ref.rws m' 0) n e ≠ ⊥ ∧ score (Ref.xs m' 0) (Ref.rws m' 0) n e ≠ ⊤)
    (hn : ∀ (n : Fin 1024) (j : Fin 2), ∃ e : Fin 32, BitVec.ofNat 32 e.val = Ref.ids m' 0 (ix2 n j))
    (c : Dev Cert.KernelIdeal.nD) :
    outC m c = Layout.block ⟨2, ![128, 1024]⟩ ⟨2, ![1024, 1024]⟩ 0 8 c (Cert.ReferenceIdeal.Value.res_main_v71 m' 0) := by
  funext i
  obtain ⟨r, f, rfl⟩ : ∃ (r : Fin 128) (f : Fin 1024), i = ix2 r f := ⟨i 0, i 1, by funext a; fin_cases a <;> rfl⟩
  rw [Layout.block_apply]
  have hi : (Layout.Tiles.idx (S := ⟨2, ![128, 1024]⟩) (T := ⟨2, ![1024, 1024]⟩) (a := 0) (k := 8) (by decide) c (ix2 r f)) = ix2 (tok c r) f := by
    funext a
    refine Fin.ext ?_
    rw [Layout.Tiles.idx_val]
    fin_cases a <;> rfl
  refine (out_at m c r f).trans ((sum_share h (tok c r) f).trans ?_)
  obtain ⟨e0, h0⟩ := hn (tok c r) 0
  obtain ⟨e1, h1⟩ := hn (tok c r) 1
  rw [← h0, ← h1]
  refine (gated_named _ e0 e1 (hs (tok c r)) (fun d => Ref.xs m' 0 (ix2 (tok c r) d)) (fun e d => Ref.ew m' 0 (ix3 e d f))).trans ?_
  exact (Ref.value m' 0 (tok c r) f e0 e1 h0 h1).symm.trans (congrArg (Cert.ReferenceIdeal.Value.res_main_v71 m' 0) hi.symm)

end Cert.Moe

end
-- ==== Proof.Routed.lean ====
/-
# 01_k: the precondition, read back

What `routed` being true says of the arguments: every router score is a real number, and each token names two of
the 32 experts.
-/
module

public import proofs.«01_k».proof.Pre_routed_KernelIdeal
public import proofs.«01_k».proof.Proof.Scores
public import Idealize.ShloMosaic.Lib.IdealHost
public import Idealize.ShloMosaic.Lib.ReduceAll
public import Idealize.ShloMosaic.Lib.WordCmp

@[expose] public section

set_option maxRecDepth 16384

noncomputable section

namespace Cert.Moe

open Idealize.ShloMosaic Cert.Pre_routed_KernelIdeal
open scoped BigOperators

/-- A word from 0 up to 31 is one of the 32 names. -/
theorem named_of_bounds (i : BitVec 32) (h0 : IntOp.cmpi .sge i 0#32 = 1#1) (h1 : IntOp.cmpi .slt i 32#32 = 1#1) :
    ∃ e : Fin 32, BitVec.ofNat 32 e.val = i := by
  rw [WordCmp.cmpi_sge_eq, WordCmp.ofBool_decide_eq_one_iff] at h0
  rw [WordCmp.cmpi_slt_eq, WordCmp.ofBool_decide_eq_one_iff] at h1
  have z : (0#32 : BitVec 32).toInt = 0 := by decide
  have t : (32#32 : BitVec 32).toInt = 32 := by decide
  rw [z] at h0
  rw [t] at h1
  have hn : i.toNat < 32 := by
    have := BitVec.toInt_eq_toNat_cond i
    have hl := i.isLt
    split at this <;> omega
  exact ⟨⟨i.toNat, hn⟩, by simp⟩

/-- A number whose absolute value is below the infinity is neither infinity. -/
theorem real_of_abs_lt (a : EReal) (h : max a (-a) < Ideal.ofBits .f32 0x7F800000#32) : a ≠ ⊥ ∧ a ≠ ⊤ := by
  have z : Ideal.ofBits .f32 0x7F800000#32 = ⊤ := by simp [Ideal.ofBits, Ideal.ieee]
  rw [z] at h
  constructor <;> rintro rfl <;> simp at h

/-- The two halves of the precondition. -/
theorem routed_says [Facts] (x : (⟨2, ![1024, 512]⟩ : Shape).Idx → EReal) (w : (⟨2, ![512, 32]⟩ : Shape).Idx → EReal)
    (i : (⟨2, ![1024, 2]⟩ : Shape).Idx → BitVec 32) (ew : (⟨3, ![4, 512, 1024]⟩ : Shape).Idx → EReal)
    (h : Cert.Pre_routed_KernelIdeal.fn (F := Ideal) x w i ew = fun _ => 1#1) :
    (∀ n e, score x w n e ≠ ⊥ ∧ score x w n e ≠ ⊤)
      ∧ ∀ (n : Fin 1024) (j : Fin 2), ∃ e : Fin 32, BitVec.ofNat 32 e.val = i (ix2 n j) := by
  obtain ⟨h0, h1⟩ := IntOp.andi_eq_one.1 (congrFun h ix0)
  refine ⟨fun n e => ?_, fun n j => ?_⟩
  · have a := Host.reduce_andi_all _ _ _ _ _ h0 (ix2 n e)
    revert a
    pointwise []
    intro a
    exact real_of_abs_lt _ ((WordCmp.ofBool_decide_eq_one_iff _).1 a)
  · have a := Host.reduce_andi_all _ _ _ _ _ h1 (ix2 n j)
    revert a
    pointwise []
    intro a
    obtain ⟨h0, h1⟩ := IntOp.andi_eq_one.1 a
    exact named_of_bounds _ h0 h1

end Cert.Moe

end
-- ==== Proof.lean ====
/-
# 01_k: the claims

The run of the kernel (`Cert.Moe.run`, for any float values) gives both of its frames; the reference's frame is its
generated run, and the two runs give equal results (`Cert.Moe.out_eq`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Launch
public import proofs.«01_k».proof.Proof.Twin
public import proofs.«01_k».proof.Proof.Equal
public import proofs.«01_k».proof.Proof.Routed
public import Idealize.ShloMosaic.Adequacy
public import Idealize.ShloMosaic.Init

@[expose] public section

noncomputable section

namespace Cert.Proof

open Idealize.ShloMosaic Idealize.SL.Sem

/-- The kernel at the chip's own floats: it ends, its inputs as they were, every counter at zero. -/
theorem frame_kernel : Cert.quiescent_Kernel (hKernel := Cert.Kernel.Gen.facts) := fun m ρ _ =>
  Cert.Moe.twin_run _ _ (Cert.Moe.run_frame (F := Bits) m ρ)

/-- The kernel over the extended reals likewise. -/
theorem frame_kernelIdeal : Cert.quiescent_KernelIdeal (hKernelIdeal := Cert.KernelIdeal.Gen.facts) := fun m ρ _ =>
  Cert.Moe.run_frame (F := Ideal) m ρ

/-- The reference over the extended reals likewise; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, block by block, for arguments that are routed. -/
theorem algebraic : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Pre_routed_KernelIdeal.Gen.facts) := fun m g m' g' hp hl => by
  have L : Cert.Moe.Laid m m' := ⟨fun c => (hl c).1, fun c => (hl c).2.1, fun c => (hl c).2.2.1, fun c => (hl c).2.2.2⟩
  have R := @Cert.Moe.routed_says Cert.Pre_routed_KernelIdeal.Gen.facts (Cert.Moe.aX m 0) (Cert.Moe.aR m 0) (Cert.Moe.aI m 0) (Cert.Moe.aW m 0) (hp 0)
  rw [L.x, L.r, L.i] at R
  refine ⟨Cert.ReferenceIdeal.Value.res_main_v71 m' 0, ?_, ?_⟩
  · exact (θ_run Cert.KernelIdeal.defs _ _).mono
      (fun r h => fun c => ⟨(h.1 c).1.trans (Cert.Moe.out_eq L R.1 R.2 c), (h.1 c).2⟩) (Cert.Moe.run (F := Ideal) m g)
  · exact (θ_run Cert.ReferenceIdeal.defs _ _).mono (fun r h => h 0) (Cert.ReferenceIdeal.Value.run (F := Ideal) m' g')

/-- Everything claimed: the three frames, the kernel unchanged over the extended reals, and the equal results. -/
theorem claim : Cert.Claim := ⟨Cert.Kernel.Gen.facts, Cert.KernelIdeal.Gen.facts, Cert.ReferenceIdeal.Gen.facts,
  Cert.Pre_routed_KernelIdeal.Gen.facts, Cert.Pre_routed_ReferenceIdeal.Gen.facts,
  frame_kernel, frame_kernelIdeal, fun m ρ _ => frame_kernelIdeal m ρ trivial, frame_reference, fun m ρ _ => frame_reference m ρ trivial, trivial, algebraic⟩

end Cert.Proof

end
